-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 512]⟩ ⟨3, ![8, 4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x512 : Shape := ⟨3, ![1, 4096, 512]⟩
abbrev S512 : Shape := ⟨1, ![512]⟩
abbrev S512x512 : Shape := ⟨2, ![512, 512]⟩
abbrev S8x512x128 : Shape := ⟨3, ![8, 512, 128]⟩
abbrev S7 : Shape := ⟨1, ![7]⟩
abbrev S_ : Shape := ⟨0, ![]⟩
abbrev S1x512x128 : Shape := ⟨3, ![1, 512, 128]⟩
abbrev S512x128 : Shape := ⟨2, ![512, 128]⟩
abbrev S1 : Shape := ⟨1, ![1]⟩
abbrev S512x1 : Shape := ⟨2, ![512, 1]⟩
abbrev S128 : Shape := ⟨1, ![128]⟩
abbrev S1x128 : Shape := ⟨2, ![1, 128]⟩

abbrev nBuf : Space → Nat
  | .hbm => 3
  | .vmem => 7
  | .smem => 0
  | _ => 0

abbrev bufTy : (tb : Table) → Fin (tcTables nBuf tb) → BufTy
  | .hbm, ⟨0, _⟩ => ⟨S1x4096x512, .f32⟩
  | .hbm, ⟨1, _⟩ => ⟨S512, .f32⟩
  | .hbm, ⟨2, _⟩ => ⟨S512x512, .f32⟩
  | .local _ .vmem, ⟨0, _⟩ => ⟨S1x4096x512, .f32⟩
  | .local _ .vmem, ⟨1, _⟩ => ⟨S512, .f32⟩
  | .local _ .vmem, ⟨2, _⟩ => ⟨S512x512, .f32⟩
  | .local _ .vmem, ⟨3, _⟩ => ⟨S8x512x128, .f32⟩
  | .local _ .vmem, ⟨4, _⟩ => ⟨S8x512x128, .f32⟩
  | .local _ .vmem, ⟨5, _⟩ => ⟨S8x512x128, .f32⟩
  | .local _ .vmem, ⟨6, _⟩ => ⟨S8x512x128, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let c1_i32_11 : BitVec 32 := 1#32
  let v14 : BitVec 32 := Scalar.subi v13 c1_i32_11
  let c8_i32_12 : BitVec 32 := 8#32
  let v15 : BitVec 32 := Scalar.remsi v14 c8_i32_12
  let c512_i32 : BitVec 32 := 512#32
  let v18 : BitVec 32 := Scalar.muli v15 c512_i32
  let v19 : Index := Scalar.indexCast v18
  let c0_15 : Index := 0#32
  ![0, v19.toNat, 0]
def k0_off2 (d0 : Dev nD) : Fin 3 → Nat :=
  let c0_20 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v16 : BitVec 32 := Scalar.addi v2 c1_i32_13
  let c8_i32_14 : BitVec 32 := 8#32
  let v17 : BitVec 32 := Scalar.remsi v16 c8_i32_14
  let c512_i32_19 : BitVec 32 := 512#32
  let v25 : BitVec 32 := Scalar.muli v17 c512_i32_19
  let v26 : Index := Scalar.indexCast v25
  let c256 : Index := 256#32
  ![0, v26.toNat, 256]
def k0_off3 (d0 : Dev nD) : Fin 3 → Nat :=
  let c0_25 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let c1_i32_11 : BitVec 32 := 1#32
  let v14 : BitVec 32 := Scalar.subi v13 c1_i32_11
  let c8_i32_12 : BitVec 32 := 8#32
  let v15 : BitVec 32 := Scalar.remsi v14 c8_i32_12
  let c512_i32_24 : BitVec 32 := 512#32
  let v32 : BitVec 32 := Scalar.muli v15 c512_i32_24
  let v33 : Index := Scalar.indexCast v32
  let c128 : Index := 128#32
  ![0, v33.toNat, 128]
def k0_off4 (d0 : Dev nD) : Fin 3 → Nat :=
  let c0_30 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v16 : BitVec 32 := Scalar.addi v2 c1_i32_13
  let c8_i32_14 : BitVec 32 := 8#32
  let v17 : BitVec 32 := Scalar.remsi v16 c8_i32_14
  let c512_i32_29 : BitVec 32 := 512#32
  let v39 : BitVec 32 := Scalar.muli v17 c512_i32_29
  let v40 : Index := Scalar.indexCast v39
  let c384 : Index := 384#32
  ![0, v40.toNat, 384]
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_38 : BitVec 32 := 1#32
  let v46 : BitVec 32 := Scalar.muli v7 c1_i32_38
  let v47 : BitVec 32 := Scalar.addi c0_i32_39 v46
  v47.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_48 : BitVec 32 := 1#32
  let v56 : BitVec 32 := Scalar.muli v5 c1_i32_48
  let v57 : BitVec 32 := Scalar.addi c0_i32_49 v56
  v57.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_58 : BitVec 32 := 1#32
  let v66 : BitVec 32 := Scalar.muli v7 c1_i32_58
  let v67 : BitVec 32 := Scalar.addi c0_i32_59 v66
  v67.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_68 : BitVec 32 := 1#32
  let v76 : BitVec 32 := Scalar.muli v5 c1_i32_68
  let v77 : BitVec 32 := Scalar.addi c0_i32_69 v76
  v77.toNat
def k0_off5 (d0 : Dev nD) (c0_i32_85 : BitVec 32) : Fin 3 → Nat :=
  let c0_90 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v94 : BitVec 32 := Scalar.addi v2 c16_i32
  let c2_i32_84 : BitVec 32 := 2#32
  let v95 : BitVec 32 := Scalar.subi v94 c2_i32_84
  let v96 : BitVec 32 := Scalar.subi v95 c0_i32_85
  let c8_i32_86 : BitVec 32 := 8#32
  let v97 : BitVec 32 := Scalar.remsi v96 c8_i32_86
  let c512_i32_89 : BitVec 32 := 512#32
  let v100 : BitVec 32 := Scalar.muli v97 c512_i32_89
  let v101 : Index := Scalar.indexCast v100
  let c0_91 : Index := 0#32
  ![0, v101.toNat, 0]
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_99 : BitVec 32 := 1#32
  let v108 : BitVec 32 := Scalar.muli v7 c1_i32_99
  let v109 : BitVec 32 := Scalar.addi c0_i32_100 v108
  v109.toNat
def k0_off6 (d0 : Dev nD) (c0_i32_116 : BitVec 32) : Fin 3 → Nat :=
  let c0_122 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_115 : BitVec 32 := 2#32
  let v126 : BitVec 32 := Scalar.addi v2 c2_i32_115
  let v127 : BitVec 32 := Scalar.addi v126 c0_i32_116
  let c8_i32_117 : BitVec 32 := 8#32
  let v128 : BitVec 32 := Scalar.remsi v127 c8_i32_117
  let c512_i32_121 : BitVec 32 := 512#32
  let v131 : BitVec 32 := Scalar.muli v128 c512_i32_121
  let v132 : Index := Scalar.indexCast v131
  let c256_123 : Index := 256#32
  ![0, v132.toNat, 256]
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_131 : BitVec 32 := 1#32
  let v139 : BitVec 32 := Scalar.muli v5 c1_i32_131
  let v140 : BitVec 32 := Scalar.addi c0_i32_132 v139
  v140.toNat
def k0_off7 (d0 : Dev nD) (c0_i32_149 : BitVec 32) : Fin 3 → Nat :=
  let c0_155 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_147 : BitVec 32 := 16#32
  let v157 : BitVec 32 := Scalar.addi v2 c16_i32_147
  let c2_i32_148 : BitVec 32 := 2#32
  let v158 : BitVec 32 := Scalar.subi v157 c2_i32_148
  let v159 : BitVec 32 := Scalar.subi v158 c0_i32_149
  let c8_i32_150 : BitVec 32 := 8#32
  let v160 : BitVec 32 := Scalar.remsi v159 c8_i32_150
  let c512_i32_154 : BitVec 32 := 512#32
  let v163 : BitVec 32 := Scalar.muli v160 c512_i32_154
  let v164 : Index := Scalar.indexCast v163
  let c128_156 : Index := 128#32
  ![0, v164.toNat, 128]
def k0_dev9 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_164 : BitVec 32 := 1#32
  let v171 : BitVec 32 := Scalar.muli v7 c1_i32_164
  let v172 : BitVec 32 := Scalar.addi c0_i32_165 v171
  v172.toNat
def k0_off8 (d0 : Dev nD) (c0_i32_181 : BitVec 32) : Fin 3 → Nat :=
  let c0_187 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_180 : BitVec 32 := 2#32
  let v189 : BitVec 32 := Scalar.addi v2 c2_i32_180
  let v190 : BitVec 32 := Scalar.addi v189 c0_i32_181
  let c8_i32_182 : BitVec 32 := 8#32
  let v191 : BitVec 32 := Scalar.remsi v190 c8_i32_182
  let c512_i32_186 : BitVec 32 := 512#32
  let v194 : BitVec 32 := Scalar.muli v191 c512_i32_186
  let v195 : Index := Scalar.indexCast v194
  let c384_188 : Index := 384#32
  ![0, v195.toNat, 384]
def k0_dev10 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_196 : BitVec 32 := 1#32
  let v202 : BitVec 32 := Scalar.muli v5 c1_i32_196
  let v203 : BitVec 32 := Scalar.addi c0_i32_197 v202
  v203.toNat
def k0_dev11 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_227 : BitVec 32 := 1#32
  let v234 : BitVec 32 := Scalar.muli v7 c1_i32_227
  let v235 : BitVec 32 := Scalar.addi c0_i32_228 v234
  v235.toNat
def k0_dev12 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_259 : BitVec 32 := 1#32
  let v265 : BitVec 32 := Scalar.muli v5 c1_i32_259
  let v266 : BitVec 32 := Scalar.addi c0_i32_260 v265
  v266.toNat
def k0_dev13 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_292 : BitVec 32 := 1#32
  let v297 : BitVec 32 := Scalar.muli v7 c1_i32_292
  let v298 : BitVec 32 := Scalar.addi c0_i32_293 v297
  v298.toNat
def k0_dev14 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_324 : BitVec 32 := 1#32
  let v328 : BitVec 32 := Scalar.muli v5 c1_i32_324
  let v329 : BitVec 32 := Scalar.addi c0_i32_325 v328
  v329.toNat
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_355 : BitVec 32 := 1#32
  let v360 : BitVec 32 := Scalar.muli v7 c1_i32_355
  let v361 : BitVec 32 := Scalar.addi c0_i32_356 v360
  v361.toNat
def k0_dev16 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_387 : BitVec 32 := 1#32
  let v391 : BitVec 32 := Scalar.muli v5 c1_i32_387
  let v392 : BitVec 32 := Scalar.addi c0_i32_388 v391
  v392.toNat
def k0_dev17 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_420 : BitVec 32 := 1#32
  let v423 : BitVec 32 := Scalar.muli v7 c1_i32_420
  let v424 : BitVec 32 := Scalar.addi c0_i32_421 v423
  v424.toNat
def k0_dev18 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_452 : BitVec 32 := 1#32
  let v454 : BitVec 32 := Scalar.muli v5 c1_i32_452
  let v455 : BitVec 32 := Scalar.addi c0_i32_453 v454
  v455.toNat
def k0_dev19 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_483 : BitVec 32 := 1#32
  let v486 : BitVec 32 := Scalar.muli v7 c1_i32_483
  let v487 : BitVec 32 := Scalar.addi c0_i32_484 v486
  v487.toNat
def k0_dev20 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_515 : BitVec 32 := 1#32
  let v517 : BitVec 32 := Scalar.muli v5 c1_i32_515
  let v518 : BitVec 32 := Scalar.addi c0_i32_516 v517
  v518.toNat
def k0_dev21 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_548 : BitVec 32 := 1#32
  let v549 : BitVec 32 := Scalar.muli v7 c1_i32_548
  let v550 : BitVec 32 := Scalar.addi c0_i32_549 v549
  v550.toNat
def k0_dev22 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_580 : BitVec 32 := 1#32
  let v580 : BitVec 32 := Scalar.muli v5 c1_i32_580
  let v581 : BitVec 32 := Scalar.addi c0_i32_581 v580
  v581.toNat
def k0_dev23 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_611 : BitVec 32 := 1#32
  let v612 : BitVec 32 := Scalar.muli v7 c1_i32_611
  let v613 : BitVec 32 := Scalar.addi c0_i32_612 v612
  v613.toNat
def k0_dev24 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_643 : BitVec 32 := 1#32
  let v643 : BitVec 32 := Scalar.muli v5 c1_i32_643
  let v644 : BitVec 32 := Scalar.addi c0_i32_644 v643
  v644.toNat
def k0_dev25 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_676 : BitVec 32 := 1#32
  let v675 : BitVec 32 := Scalar.muli v7 c1_i32_676
  let v676 : BitVec 32 := Scalar.addi c0_i32_677 v675
  v676.toNat
def k0_dev26 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_708 : BitVec 32 := 1#32
  let v706 : BitVec 32 := Scalar.muli v5 c1_i32_708
  let v707 : BitVec 32 := Scalar.addi c0_i32_709 v706
  v707.toNat
def k0_dev27 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_739 : BitVec 32 := 1#32
  let v738 : BitVec 32 := Scalar.muli v7 c1_i32_739
  let v739 : BitVec 32 := Scalar.addi c0_i32_740 v738
  v739.toNat
def k0_dev28 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_771 : BitVec 32 := 1#32
  let v769 : BitVec 32 := Scalar.muli v5 c1_i32_771
  let v770 : BitVec 32 := Scalar.addi c0_i32_772 v769
  v770.toNat
def k0_dev29 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_804 : BitVec 32 := 1#32
  let v801 : BitVec 32 := Scalar.muli v7 c1_i32_804
  let v802 : BitVec 32 := Scalar.addi c0_i32_805 v801
  v802.toNat
def k0_dev30 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_836 : BitVec 32 := 1#32
  let v832 : BitVec 32 := Scalar.muli v5 c1_i32_836
  let v833 : BitVec 32 := Scalar.addi c0_i32_837 v832
  v833.toNat
abbrev stage0_0 : Fin 1 → Memref sig .tc .vmem S1x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x4096x512 : Shape := ⟨3, ![8, 4096, 512]⟩
abbrev S512 : Shape := ⟨1, ![512]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512, .f32⟩
  | .hbm, ⟨2, _⟩ => ⟨S_, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x512, .f32⟩
  | .hbm, ⟨16, _⟩ => ⟨S4096x512, .f32⟩
  | .hbm, ⟨17, _⟩ => ⟨S1x512, .f32⟩
  | .hbm, ⟨18, _⟩ => ⟨S4096x512, .f32⟩
  | .hbm, ⟨19, _⟩ => ⟨S4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ideal.Ring.lean ====
/-
# The ring reduce-scatter, unrolled by hop

The kernel runs four rings at once, one per quarter of the columns. Ring `r` uses the scratch buffer `scrM r` of eight
slots and seven hops; the hops of all four are numbered `k = 4 s + r` in the order in which the program starts them, the
slots `j = 4 s + r` likewise, so that hop `k` moves slot `k` of the sender to slot `k + 4` of the receiver. Even rings
send to the next device, odd rings to the previous one.

This module names those things at a symbolic hop and restates the printed body as a program over them (`ringBody`), the
twenty-eight hops by recursion. Everything is stated at the program's own offset and device chains.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL.Sem

variable {F : FTy → Type} [FloatOps F]

/-! ## Memrefs, rectangles and semaphores by hop -/

abbrev xM : Memref sig .tc .vmem S1x4096x512 .f32 := Memref.whole cc0_stg0_0
abbrev gM : Memref sig .tc .vmem S512 .f32 := Memref.whole cc0_stg1_0
abbrev oM : Memref sig .tc .vmem S512x512 .f32 := Memref.whole cc0_stg2_0

/-- The scratch buffer of ring `r`. -/
def scrM : Fin 4 → Memref sig .tc .vmem S8x512x128 .f32
  | 0 => Memref.whole cc0_scratch0
  | 1 => Memref.whole cc0_scratch2
  | 2 => Memref.whole cc0_scratch1
  | 3 => Memref.whole cc0_scratch3

/-- The ring of slot (or hop) `j`. -/
abbrev rg (j : ℕ) : Fin 4 := ⟨j % 4, Nat.mod_lt _ (by decide)⟩
/-- The slot a hop reads on its sender, and the slot it fills on its receiver. -/
abbrev sl (k : Fin 28) : Fin 32 := ⟨k.val, by omega⟩
abbrev dl (k : Fin 28) : Fin 32 := ⟨k.val + 4, by omega⟩

set_option backward.proofsInPublic true in
theorem slot_inb (j : Fin 32) : ∀ a, (![j.val / 4, 0, 0] : Fin 3 → Nat) a + S1x512x128.size a ≤ S8x512x128.size a := by
  revert j; decide

/-- Slot `j` within its buffer. -/
abbrev slotR (j : Fin 32) : Rect S8x512x128 := Rect.unit (s := S8x512x128) ![j.val / 4, 0, 0] S1x512x128.size (slot_inb j)
/-- Slot `j` as the copies name it. -/
abbrev slotM (j : Fin 32) : Memref sig .tc .vmem S512x128 .f32 :=
  ((scrM (rg j)).slice (slotR j) (fun _ => rfl)).squeeze S512x128 squeezes_S1x512x128_S512x128

/-- Where ring `r` stands among the column quarters and among the semaphore arrays. -/
def pos (r : ℕ) : ℕ := 2 * (r % 2) + r / 2

/-- The semaphores of hop `k`: the one the sender drains, the one the receiver waits on. -/
def sendS (k : Fin 28) : DmaSem sig := ⟨3 + 14 * pos (k.val % 4) + k.val / 4, by revert k; decide⟩
def recvS (k : Fin 28) : DmaSem sig := ⟨10 + 14 * pos (k.val % 4) + k.val / 4, by revert k; decide⟩

/-! ## The program's offset and device chains by hop -/

/-- The offsets at which the program loads its own block for slot `j`: the four seeds, then the accumulations. -/
def offP (c : Dev nD) (j : Fin 32) : Fin 3 → Nat :=
  if j.val < 4 then
    match rg j with
    | 0 => k0_off1 c | 1 => k0_off2 c | 2 => k0_off3 c | 3 => k0_off4 c
  else
    match rg j with
    | 0 => k0_off5 c (BitVec.ofNat 32 (j.val / 4 - 1)) | 1 => k0_off6 c (BitVec.ofNat 32 (j.val / 4 - 1))
    | 2 => k0_off7 c (BitVec.ofNat 32 (j.val / 4 - 1)) | 3 => k0_off8 c (BitVec.ofNat 32 (j.val / 4 - 1))

/-- The device hop `k` is addressed to. -/
def devP (c : Dev nD) (k : Fin 28) : ℕ := if k.val % 2 = 0 then k0_dev3 c else k0_dev4 c

/-! ## The program -/

abbrev PR (F : FTy → Type) [FloatOps F] : Type _ := Prog (TpuEff nD τ sig (Elt F) Λ₀ .tc) PUnit

set_option backward.proofsInPublic true in
theorem offP_inb (c : Dev nD) (j : Fin 32) : ∀ a, offP c j a + S1x512x128.size a ≤ S1x4096x512.size a := by
  revert c j; decide +kernel
set_option backward.proofsInPublic true in
theorem devP_lt (c : Dev nD) (k : Fin 28) : devP c k < nD := by revert c k; decide +kernel

/-- Load this device's own piece of slot `j`. -/
def xloadP (c : Dev nD) (j : Fin 32) (k : Vec F S1x512x128 .f32 → PR F) : PR F :=
  .op (.load xM (Rect.unit (s := S1x4096x512) (offP c j) S1x512x128.size (offP_inb c j)).toLoadRect (View.loadsAt_vmem h_S1x512x128)) k
/-- Load slot `j`. -/
def sloadP (j : Fin 32) (k : Vec F S1x512x128 .f32 → PR F) : PR F :=
  .op (.load (scrM (rg j)) (slotR j).toLoadRect (View.loadsAt_vmem h_S1x512x128)) k
/-- Store into slot `j`. -/
def sstoreP (j : Fin 32) (w : Vec F S1x512x128 .f32) (k : PR F) : PR F :=
  .op (.store (scrM (rg j)) (slotR j) w Finset.univ (View.stores_vmem_bits_univ h_S1x512x128 rfl) (.inl rfl)) fun _ => k
/-- Start hop `k`. -/
def sendP (c : Dev nD) (k : Fin 28) (n : PR F) : PR F :=
  .op (.enqueueDma (slotM (sl k)) (.remote (Dev.tc (⟨devP c k, devP_lt c k⟩ : Dev nD)) (slotM (dl k)) (.dma (sendS k))) (.dma (recvS k))
    ((View.wordExact_bits rfl).reshape _ _) ((View.wordExact_bits rfl).reshape _ _) ⟨⟨rfl, Or.inl rfl⟩, trivial⟩) fun _ => n
/-- Wait for hop `k` to land here. -/
def recvP (k : Fin 28) (n : PR F) : PR F :=
  .op (.waitDma2 (recvS k) (slotM (sl k)) (slotM (dl k)) ((View.wordExact_bits rfl).reshape _ _) ((View.wordExact_bits rfl).reshape _ _)) fun _ => n
/-- Wait for hop `k` to have left. -/
def drainP (k : Fin 28) (n : PR F) : PR F :=
  .op (.waitDma2 (sendS k) (slotM (dl k)) (slotM (sl k)) ((View.wordExact_bits rfl).reshape _ _) ((View.wordExact_bits rfl).reshape _ _)) fun _ => n

/-- Slot `r` seeded with this device's own piece. -/
def seedP (c : Dev nD) (r : Fin 32) (n : PR F) : PR F :=
  xloadP c r fun x => sloadP r fun _ => sstoreP r (k0_pay3 x) n
/-- Hop `k` received and this device's own piece added. -/
def hopP (c : Dev nD) (k : Fin 28) (n : PR F) : PR F :=
  recvP k (sloadP (dl k) fun a => xloadP c (dl k) fun x => sloadP (dl k) fun _ => sstoreP (dl k) (k0_pay7 a x) n)

/-- The last `i` hops: each received, accumulated and, while its ring goes on, sent on. -/
def hopsP (c : Dev nD) : (i : ℕ) → i ≤ 28 → PR F → PR F
  | 0, _, n => n
  | i + 1, h, n =>
    hopP c ⟨27 - i, by omega⟩ (if h4 : 4 ≤ i then sendP c ⟨31 - i, by omega⟩ (hopsP c i (by omega) n) else hopsP c i (by omega) n)

/-- The hop drained `d`-th: ring by ring. -/
abbrev drOf (d : ℕ) (h : d < 28) : Fin 28 := ⟨4 * (d % 7) + d / 7, by omega⟩

/-- The last `i` drains. -/
def drainsP : (i : ℕ) → i ≤ 28 → PR F → PR F
  | 0, _, n => n
  | i + 1, h, n => drainP (drOf (27 - i) (by omega)) (drainsP i (by omega) n)

/-- Load a quarter of the scale. -/
def gloadP (off : Fin 1 → Nat) (inb : ∀ a, off a + S128.size a ≤ S512.size a) (k : Vec F S128 .f32 → PR F) : PR F :=
  .op (.load gM (Rect.unit (s := S512) off S128.size inb).toLoadRect (View.loadsAt_vmem h_S128)) k
/-- Load, then store, a column quarter of the result. -/
def outP (off : Fin 2 → Nat) (inb : ∀ a, off a + S512x128.size a ≤ S512x512.size a) (w : Vec F S512x128 .f32) (n : PR F) : PR F :=
  .op (.load oM (Rect.unit (s := S512x512) off S512x128.size inb).toLoadRect (View.loadsAt_vmem h_S512x128)) fun _ =>
  .op (.store oM (Rect.unit (s := S512x512) off S512x128.size inb) w Finset.univ (View.stores_vmem_bits_univ h_S512x128 rfl) (.inl rfl)) fun _ => n

/-- The normalised rows: the four last slots read, the four column quarters of the result written. -/
def finP : PR F :=
  sloadP 28 fun a0 => sloadP 29 fun a1 => sloadP 30 fun a2 => sloadP 31 fun a3 =>
  gloadP ![0] inb_S512_S128_0 fun g0 =>
  outP ![0, 0] inb_S512x512_S512x128_0_0 (k0_pay48 (k0_pay42 a0) (k0_pay47 a0 a1 a2 a3) g0) <|
  gloadP ![256] inb_S512_S128_256 fun g1 =>
  outP ![0, 256] inb_S512x512_S512x128_0_256 (k0_pay49 (k0_pay43 a1) (k0_pay46 a0 a1 a2 a3) g1) <|
  gloadP ![128] inb_S512_S128_128 fun g2 =>
  outP ![0, 128] inb_S512x512_S512x128_0_128 (k0_pay1 (k0_pay44 a2) (k0_pay46 a0 a1 a2 a3) g2) <|
  gloadP ![384] inb_S512_S128_384 fun g3 =>
  outP ![0, 384] inb_S512x512_S512x128_0_384 (k0_pay2 (k0_pay45 a3) (k0_pay46 a0 a1 a2 a3) g3) <|
  .ret ⟨⟩

/-- The barrier semaphore both neighbours signal. -/
abbrev barS : Sem sig := (SemArray.scalar (sig.barrier 0 rfl) : Sems sig S_).sem

/-- What follows the barrier. -/
def afterP (c : Dev nD) : PR F :=
  seedP c 0 <| seedP c 1 <| seedP c 2 <| seedP c 3 <| sendP c 0 <| sendP c 1 <| sendP c 2 <| sendP c 3 <|
  hopsP c 28 (le_refl _) <| drainsP 28 (le_refl _) finP

/-- The body by hop. -/
def ringBody : PR F :=
  .op .deviceId fun c =>
  .op (.semSignal ((⟨k0_dev1 c, k0_dev1_lt c⟩ : Dev nD), .tc) barS (1#32).toInt) fun _ =>
  .op (.semSignal ((⟨k0_dev2 c, k0_dev2_lt c⟩ : Dev nD), .tc) barS (1#32).toInt) fun _ =>
  .op (.semWait barS (2#32).toInt) fun _ => afterP c

set_option maxRecDepth 100000 in
set_option maxHeartbeats 4000000 in
/-- The printed body is the program by hop. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9
    cc0_scratch10 cc0_scratch11 = ringBody := rfl

end Cert.KernelIdealProof

end
-- ==== Proof.Ideal.Proto.lean ====
/-
# The protocol

What each slot holds and when it changes hands. A device's barrier cell has two duties of one unit, one per neighbour:
with its signal a neighbour lends the slots this device's hops will fill there. A hop's receive cell has one duty, paid by
the copy: the filled slot, holding what the sender had accumulated. A hop's send cell has one duty, paid by the same copy:
the source slot back. No slot is read or written by a core while a copy holds it.

Levels: barrier cells at 1, the receive cell of hop `k` at `2 + k`, everything else at 0. A device owes its hops' receive
cells in the order it starts them and waits for hop `k` only when the hops it still owes come later, so every wait is
below everything owed.
-/
module

public import proofs.«01_k».proof.Proof.Ideal.Ring

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring of devices -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The device that receives hop `k` of `c`, and the device whose hop `k` `c` receives. -/
def tgt (k : ℕ) (c : Dev nD) : Dev nD := if k % 2 = 0 then nxt c else prv c
def src (k : ℕ) (c : Dev nD) : Dev nD := if k % 2 = 0 then prv c else nxt c

theorem src_tgt (k : ℕ) (c : Dev nD) : src k (tgt k c) = c := by unfold src tgt; split <;> simp only [prv_nxt, nxt_prv]
theorem tgt_src (k : ℕ) (c : Dev nD) : tgt k (src k c) = c := by unfold src tgt; split <;> simp only [prv_nxt, nxt_prv]

def hopRing (k : ℕ) : Dev nD ≃ Dev nD := ⟨tgt k, src k, src_tgt k, tgt_src k⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem devP_eq (c : Dev nD) (k : Fin 28) : (⟨devP c k, devP_lt c k⟩ : Dev nD) = tgt k.val c := by revert c k; decide +kernel

/-! ## The cells -/

abbrev barCell (c : Dev nD) : GSem nD τ sig := ((c : Thread nD τ), .reg barS)
abbrev sendCell (c : Dev nD) (k : Fin 28) : GSem nD τ sig := ((c : Thread nD τ), .dma (sendS k))
abbrev recvCell (c : Dev nD) (k : Fin 28) : GSem nD τ sig := ((c : Thread nD τ), .dma (recvS k))

/-- The kernel's own semaphores: per hop, the send and the receive. -/
def osem : Bool × Fin 28 → SemLoc sig := fun x => .dma (if x.1 then recvS x.2 else sendS x.2)
/-- With the barrier. -/
def csem : Option (Bool × Fin 28) → SemLoc sig := fun x => x.elim (.reg barS) osem
abbrev kcell (ck : Dev nD × Option (Bool × Fin 28)) : GSem nD τ sig := ((ck.1 : Thread nD τ), csem ck.2)

abbrev iBar : Option (Bool × Fin 28) := none
abbrev iSend (k : Fin 28) : Option (Bool × Fin 28) := some (false, k)
abbrev iRecv (k : Fin 28) : Option (Bool × Fin 28) := some (true, k)

/-- The hop a DMA semaphore belongs to, and whether it is the one waited on by the receiver. -/
def hopOf (q : DmaSem sig) : Fin 28 := ⟨(4 * ((q.val - 3) % 7) + pos ((q.val - 3) / 14)) % 28, Nat.mod_lt _ (by decide)⟩
def isRecv (q : DmaSem sig) : Bool := (q.val - 3) / 7 % 2 == 1

theorem hopOf_send (k : Fin 28) : hopOf (sendS k) = k := by revert k; decide
theorem hopOf_recv (k : Fin 28) : hopOf (recvS k) = k := by revert k; decide
theorem isRecv_send (k : Fin 28) : isRecv (sendS k) = false := by revert k; decide
theorem isRecv_recv (k : Fin 28) : isRecv (recvS k) = true := by revert k; decide
theorem send_own (k : Fin 28) : 3 ≤ (sendS k).val := by revert k; decide
theorem recv_own (k : Fin 28) : 3 ≤ (recvS k).val := by revert k; decide

theorem csem_injective : Function.Injective csem := by
  intro a b h
  have : ∀ a b : Option (Bool × Fin 28), csem a = csem b → a = b := by decide +kernel
  exact this a b h

theorem kcell_injective : Function.Injective (kcell : Dev nD × Option (Bool × Fin 28) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- What a copy of one slot counts. -/
def N : ℕ := (slotM 0).view.dmaCredit
theorem N_pos : 0 < N := View.dmaCredit_pos _ (by decide)
theorem credit_eq (j : Fin 32) : (slotM j).view.dmaCredit = N := by revert j; decide

/-! ## Contents -/

/-- The inputs as the staging buffers hold them. -/
def xstg (c : Dev nD) : (cc0_stg0_0 : Ref sig .tc).ty.Contents (Elt F) :=
  (win0_0.blk (0 : Fin 1)).view.read (Elt F) (m ((c : Thread nD τ).loc main_arg0))
def gstg (c : Dev nD) : (cc0_stg1_0 : Ref sig .tc).ty.Contents (Elt F) :=
  (win0_1.blk (0 : Fin 1)).view.read (Elt F) (m ((c : Thread nD τ).loc main_arg1))

/-- Device `c`'s own piece for slot `j`. -/
def xl (c : Dev nD) (j : Fin 32) : Vec F S1x512x128 .f32 :=
  xM.view.readAt (Elt F) (Rect.unit (s := S1x4096x512) (offP c j) S1x512x128.size (offP_inb c j)).toLoadRect (xstg m c)

/-- What slot `j` of device `c` holds once accumulated: its own piece, added to what the sender had accumulated. -/
def acc : (j : ℕ) → j < 32 → Dev nD → Vec F S1x512x128 .f32
  | 0, h, c => k0_pay3 (xl m c ⟨0, h⟩)
  | 1, h, c => k0_pay3 (xl m c ⟨1, h⟩)
  | 2, h, c => k0_pay3 (xl m c ⟨2, h⟩)
  | 3, h, c => k0_pay3 (xl m c ⟨3, h⟩)
  | n + 4, h, c => k0_pay7 (acc n (by omega) (src n c)) (xl m c ⟨n + 4, h⟩)

def A (c : Dev nD) (j : Fin 32) : Vec F S1x512x128 .f32 := acc m j.val j.isLt c

theorem A_seed (c : Dev nD) (j : Fin 32) (h : j.val < 4) : A m c j = k0_pay3 (xl m c j) := by
  obtain ⟨j, hj⟩ := j
  have : j = 0 ∨ j = 1 ∨ j = 2 ∨ j = 3 := by simp only at h; omega
  rcases this with rfl | rfl | rfl | rfl <;> rfl
theorem A_step (c : Dev nD) (k : Fin 28) : A m c (dl k) = k0_pay7 (A m (src k.val c) (sl k)) (xl m c (dl k)) := by
  unfold A; rw [acc]

/-! ## A slot held at its contents -/

/-- Slot `j` of device `c`, owned, reading `X`. -/
def slotX (c : Dev nD) (j : Fin 32) (X : Vec F S1x512x128 .f32) : sProp 𝕄 :=
  iprop(∃ f : Buf (Elt F) ((slotM j).view.loc (c : Thread nD τ)),
    ⌜((scrM (rg j)).access (slotR j)).read (Elt F) f = X⌝ ∗ ((slotM j).view.loc (c : Thread nD τ) ↦[(slotM j).view.set]{fullShare} f))
/-- Slot `j` of device `c`, owned, at any contents. -/
def slotAny (c : Dev nD) (j : Fin 32) : sProp 𝕄 := iprop(∃ X, slotX (F := F) c j X)

omit [FloatOps F] in
instance slotX_storable (c : Dev nD) (j : Fin 32) (X : Vec F S1x512x128 .f32) : BI.Storable (upEmb : UEmb _ 𝕄) (slotX (F := F) c j X) := by
  unfold slotX; infer_instance
omit [FloatOps F] in
instance slotAny_storable (c : Dev nD) (j : Fin 32) : BI.Storable (upEmb : UEmb _ 𝕄) (slotAny (F := F) c j) := by
  unfold slotAny; infer_instance

omit [FloatOps F] in
theorem slotX_any (c : Dev nD) (j : Fin 32) (X : Vec F S1x512x128 .f32) : (slotX c j X : sProp 𝕄) ⊢ slotAny c j := by
  unfold slotAny; iintro H; iexists X; iexact H

omit [FloatOps F] in
theorem slotAny_eq (c : Dev nD) (j : Fin 32) :
    (slotAny c j : sProp 𝕄) ⊣⊢ iprop(∃ f : Buf (Elt F) ((slotM j).view.loc (c : Thread nD τ)), (slotM j).view.loc (c : Thread nD τ) ↦[(slotM j).view.set]{fullShare} f) := by
  unfold slotAny slotX
  constructor
  · iintro ⟨%X, %f, -, H⟩; iexists f; iexact H
  · iintro ⟨%f, H⟩; iexists _; iexists f
    isplitr; · (ipureintro; rfl)
    iexact H

/-- A copy's landing reads at the destination slot what the source slot read. -/
theorem landed_read (j i : Fin 32) (fd : (slotM i).view.ty.Contents (Elt F)) (fs : (slotM j).view.ty.Contents (Elt F)) :
    ((scrM (rg i)).access (slotR i)).read (Elt F) ((slotM i).view.write (Elt F) fd ((slotM j).view.read (Elt F) fs) Finset.univ)
      = ((scrM (rg j)).access (slotR j)).read (Elt F) fs := by
  funext y
  obtain ⟨x, rfl⟩ := (Shape.reshapeEquiv squeezes_S1x512x128_S512x128.numel_eq).surjective y
  exact View.read_write_of_mem (v := (slotM i).view) fd _ (Finset.mem_univ x)

/-! ## The schedule -/

/-- The slots lent to `c` with one neighbour's signal: those its hops in that direction fill. -/
def barPay (c : Dev nD) (d : Bool) : sProp 𝕄 :=
  bigSep Finset.univ fun k : Fin 28 => if (k.val % 2 == 0) = d then slotAny (F := F) (tgt k.val c) (dl k) else iprop(emp)
/-- What a landed hop hands its receiver, and what a hop that has left hands back to its sender. -/
def recvPay (c : Dev nD) (k : Fin 28) : sProp 𝕄 := slotX c (dl k) (A m (src k.val c) (sl k))
def sendPay (c : Dev nD) (k : Fin 28) : sProp 𝕄 := slotX c (sl k) (A m c (sl k))

def ringRd : Rounds.Schedule (GSem nD τ sig) Bool 𝕄 where
  duties g r := if r = 0 ∧ g.1.2 = .tc then
      (match g.2 with
        | .reg _ => Finset.univ
        | .dma q => if 3 ≤ q.val then {false} else ∅)
    else ∅
  unitless _ := False
  amount g _ _ := match g.2 with
    | .reg _ => 1
    | .dma _ => N
  payload g _ d := match g.2 with
    | .reg _ => barPay g.1.1 d
    | .dma q => if isRecv q then recvPay m g.1.1 (hopOf q) else sendPay m g.1.1 (hopOf q)
  amount_pos g _ _ _ := by
    rcases g with ⟨_, _ | _⟩
    · exact Nat.one_pos
    · exact N_pos

instance barPay_storable (c : Dev nD) (d : Bool) : BI.Storable (upEmb : UEmb _ 𝕄) (barPay (F := F) c d) := by
  unfold barPay
  have : ∀ k : Fin 28, BI.Storable (upEmb : UEmb _ 𝕄) (if (k.val % 2 == 0) = d then slotAny (F := F) (tgt k.val c) (dl k) else iprop(emp)) := fun k => by
    split <;> infer_instance
  infer_instance

instance ringRd_payload_storable (g : GSem nD τ sig) (r : ℕ) (d : Bool) :
    BI.Storable (upEmb : UEmb _ 𝕄) ((ringRd (F := F) m).payload g r d) := by
  rcases g with ⟨t, _ | q⟩
  · show BI.Storable upEmb (barPay t.1 d); infer_instance
  · show BI.Storable upEmb (if isRecv q then recvPay m t.1 (hopOf q) else sendPay m t.1 (hopOf q))
    unfold recvPay sendPay
    split <;> infer_instance

section Sched
variable (c : Dev nD) (k : Fin 28)

theorem duties_bar : (ringRd (F := F) m).duties (barCell c) 0 = Finset.univ := by
  show (if (0 : ℕ) = 0 ∧ (Proc.tc : Proc τ) = Proc.tc then (Finset.univ : Finset Bool) else ∅) = _; rw [if_pos ⟨rfl, rfl⟩]
theorem duties_send : (ringRd (F := F) m).duties (sendCell c k) 0 = {false} := by
  show (if (0 : ℕ) = 0 ∧ (Proc.tc : Proc τ) = Proc.tc then (if 3 ≤ (sendS k).val then ({false} : Finset Bool) else ∅) else ∅) = _
  rw [if_pos ⟨rfl, rfl⟩, if_pos (send_own k)]
theorem duties_recv : (ringRd (F := F) m).duties (recvCell c k) 0 = {false} := by
  show (if (0 : ℕ) = 0 ∧ (Proc.tc : Proc τ) = Proc.tc then (if 3 ≤ (recvS k).val then ({false} : Finset Bool) else ∅) else ∅) = _
  rw [if_pos ⟨rfl, rfl⟩, if_pos (recv_own k)]
theorem duties_later (g : GSem nD τ sig) : ∀ r, 1 ≤ r → (ringRd (F := F) m).duties g r = ∅ := fun r hr => if_neg fun h => by omega

theorem expect_bar : (ringRd (F := F) m).expect (barCell c) 0 = 2 := by
  unfold Schedule.expect Schedule.amountOf
  rw [duties_bar]
  show ∑ _d : Bool, 1 = 2
  rfl
theorem expect_send : (ringRd (F := F) m).expect (sendCell c k) 0 = N := by
  unfold Schedule.expect Schedule.amountOf; rw [duties_send, Finset.sum_singleton]; rfl
theorem expect_recv : (ringRd (F := F) m).expect (recvCell c k) 0 = N := by
  unfold Schedule.expect Schedule.amountOf; rw [duties_recv, Finset.sum_singleton]; rfl

theorem payload_send (d : Bool) : (ringRd (F := F) m).payload (sendCell c k) 0 d = sendPay m c k := by
  show (if isRecv (sendS k) then recvPay m c (hopOf (sendS k)) else sendPay m c (hopOf (sendS k))) = _
  rw [isRecv_send, hopOf_send]; exact if_neg Bool.false_ne_true
theorem payload_recv (d : Bool) : (ringRd (F := F) m).payload (recvCell c k) 0 d = recvPay m c k := by
  show (if isRecv (recvS k) then recvPay m c (hopOf (recvS k)) else sendPay m c (hopOf (recvS k))) = _
  rw [isRecv_recv, hopOf_recv]; exact if_pos rfl

/-- Both neighbours' signals together lend every slot this device's hops fill. -/
theorem rest_bar : bigSep ((ringRd (F := F) m).duties (barCell c) 0 \ ∅) (fun d => (ringRd (F := F) m).payload (barCell c) 0 d)
    = bigSep Finset.univ fun k : Fin 28 => slotAny (F := F) (tgt k.val c) (dl k) := by
  rw [Finset.sdiff_empty, duties_bar, bigSep_univ_eq_bigSepL [false, true] (by decide) (by decide), bigSepL_cons_cons, bigSepL_singleton]
  show iprop(barPay c false ∗ barPay c true) = _
  unfold barPay
  rw [← bigSep_sep']
  refine bigSep_congr fun k _ => ?_
  rcases Bool.eq_false_or_eq_true (k.val % 2 == 0) with h | h
  · rw [h, if_neg (fun h => by cases h), if_pos rfl]; exact Idealize.SL.BI.equiv_iff.mp Idealize.SL.BI.emp_sep
  · rw [h, if_pos rfl, if_neg (fun h => by cases h)]; exact Idealize.SL.BI.equiv_iff.mp Idealize.SL.BI.sep_emp
theorem rest_send : bigSep ((ringRd (F := F) m).duties (sendCell c k) 0 \ ∅) (fun d => (ringRd (F := F) m).payload (sendCell c k) 0 d) = sendPay m c k := by
  rw [Finset.sdiff_empty, duties_send, bigSep_singleton, payload_send]
theorem rest_recv : bigSep ((ringRd (F := F) m).duties (recvCell c k) 0 \ ∅) (fun d => (ringRd (F := F) m).payload (recvCell c k) 0 d) = recvPay m c k := by
  rw [Finset.sdiff_empty, duties_recv, bigSep_singleton, payload_recv]

end Sched

/-! ## What each core owes; the levels -/

/-- The receive credits of the hops from `a` on. -/
def Oa (c : Dev nD) (a : ℕ) : CellTallies nD τ sig Unit :=
  ∑ k ∈ Finset.univ.filter (fun k : Fin 28 => a ≤ k.val), tallyAt (recvCell (tgt k.val c) k) () N
/-- With a unit for each neighbour's barrier. -/
def O₁ (c : Dev nD) : CellTallies nD τ sig Unit := Oa c 0 + tallyAt (barCell (nxt c)) () 1
def O₀ (c : Dev nD) : CellTallies nD τ sig Unit := O₁ c + tallyAt (barCell (prv c)) () 1

theorem Oa_step (c : Dev nD) (k : Fin 28) : Oa c k.val = Oa c (k.val + 1) + tallyAt (recvCell (tgt k.val c) k) () N := by
  unfold Oa
  rw [show Finset.univ.filter (fun i : Fin 28 => k.val ≤ i.val) = insert k (Finset.univ.filter fun i : Fin 28 => k.val + 1 ≤ i.val) from by
    ext i; simp only [Finset.mem_filter, Finset.mem_univ, true_and, Finset.mem_insert, Fin.ext_iff]; omega,
    Finset.sum_insert (by simp), add_comm]
theorem Oa_end (c : Dev nD) : Oa c 28 = 0 := by
  unfold Oa
  rw [Finset.filter_false_of_mem fun k _ => by omega, Finset.sum_empty]

theorem Oa_apply (c : Dev nD) (a : ℕ) (g : GSem nD τ sig) (u : Unit) :
    Oa c a g u = ∑ k ∈ Finset.univ.filter (fun k : Fin 28 => a ≤ k.val), if g = recvCell (tgt k.val c) k then N else 0 := by
  unfold Oa
  rw [Finset.sum_apply, Finsupp.finset_sum_apply]
  refine Finset.sum_congr rfl fun k _ => ?_
  rw [tallyAt_apply]; cases u; simp only [and_true]

theorem Oa_pos {c : Dev nD} {a : ℕ} {g : GSem nD τ sig} {u : Unit} (h : 0 < Oa c a g u) : ∃ k : Fin 28, a ≤ k.val ∧ g = recvCell (tgt k.val c) k := by
  rw [Oa_apply] at h
  by_contra hn
  rw [not_exists] at hn
  rw [Finset.sum_eq_zero fun k hk => if_neg fun e => hn k ⟨(Finset.mem_filter.mp hk).2, e⟩] at h
  exact Nat.lt_irrefl 0 h

def L (g : GSem nD τ sig) : Finset Unit := if g.1.2 = .tc then {()} else ∅
def lv (g : GSem nD τ sig) (_ : Unit) : ℕ := match g.2 with
  | .reg _ => 1
  | .dma q => if 3 ≤ q.val ∧ isRecv q then 2 + (hopOf q).val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 28) (u : Unit) : lv (recvCell c k) u = 2 + k.val := by
  show (if 3 ≤ (recvS k).val ∧ isRecv (recvS k) then 2 + (hopOf (recvS k)).val else 0) = _
  rw [if_pos ⟨recv_own k, isRecv_recv k⟩, hopOf_recv]

theorem O₀_pos {c : Dev nD} {g : GSem nD τ sig} {u : Unit} (h : 0 < O₀ c g u) :
    (∃ k : Fin 28, g = recvCell (tgt k.val c) k) ∨ g = barCell (nxt c) ∨ g = barCell (prv c) := by
  by_contra hn
  rw [not_or, not_or] at hn
  have h1 : tallyAt (barCell (nxt c)) () 1 g u = 0 := (tallyAt_apply _ _ _ _ _).trans <| if_neg fun e => hn.2.1 e.1
  have h2 : tallyAt (barCell (prv c)) () 1 g u = 0 := (tallyAt_apply _ _ _ _ _).trans <| if_neg fun e => hn.2.2 e.1
  have h3 : 0 < Oa c 0 g u + tallyAt (barCell (nxt c)) () 1 g u + tallyAt (barCell (prv c)) () 1 g u := h
  have h4 : 0 < Oa c 0 g u := by
    revert h3; rw [h1, h2]; generalize Oa c 0 g u = n; exact id
  obtain ⟨k, -, e⟩ := Oa_pos h4
  exact hn.1 ⟨k, e⟩

/-- The pipeline's own waits, at level 0, are below everything owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; exact le_of_eq (if_neg fun h => by omega))
      (fun g u hg => by
        rcases O₀_pos hg with ⟨k, rfl⟩ | rfl | rfl
        · rw [lv_recv]; omega
        · exact Nat.one_pos
        · exact Nat.one_pos)
  · rw [MayWait_zero]; iintro -; iempintro

/-- At its barrier wait a device owes receive credits only. -/
theorem mayWait_bar (c : Dev nD) : (levAts L lv : sProp 𝕄) ⊢ MayWait (c : Thread nD τ) (.reg barS) () (Oa c 0) :=
  MayOwe.of_cut (L := L) (lev := lv) 1 (fun p hp => by rw [Finset.mem_singleton.mp hp, L_tc]; exact Finset.mem_singleton_self _)
    (fun g u hg => by obtain ⟨k, -, rfl⟩ := Oa_pos hg; exact Finset.mem_singleton_self _)
    (fun p hp => by rw [Finset.mem_singleton.mp hp]; exact le_refl 1)
    (fun g u hg => by obtain ⟨k, -, rfl⟩ := Oa_pos hg; rw [lv_recv]; omega)

/-- Waiting for hop `k` a device owes only hops it starts later. -/
theorem mayWait_recv (c : Dev nD) (k : Fin 28) (a : ℕ) (h : k.val < a) : (levAts L lv : sProp 𝕄) ⊢ MayWait (c : Thread nD τ) (.dma (recvS k)) () (Oa c a) :=
  MayOwe.of_cut (L := L) (lev := lv) (2 + k.val) (fun p hp => by rw [Finset.mem_singleton.mp hp, L_tc]; exact Finset.mem_singleton_self _)
    (fun g u hg => by obtain ⟨k, -, rfl⟩ := Oa_pos hg; exact Finset.mem_singleton_self _)
    (fun p hp => by rw [Finset.mem_singleton.mp hp]; exact le_of_eq (lv_recv c k _))
    (fun g u hg => by obtain ⟨k', hk', rfl⟩ := Oa_pos hg; rw [lv_recv]; omega)

end Cert.KernelIdealProof

end
-- ==== Proof.Ideal.Steps.lean ====
/-
# One step of the ring at a symbolic hop

The state of a device between two steps is given by four counters: slots accumulated, hops started, hops received, hops
drained. Each step of the program advances one of them.
-/
module

public import proofs.«01_k».proof.Proof.Ideal.Proto

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the body on device `c`. -/
abbrev wpc (c : Dev nD) (p : PR F) (Q : PUnit → sProp (MT nD τ sig Unit (Elt F) ℕ UU ℕ)) : sProp 𝕄 :=
  wp frame (wpE (defs₀ (F := F)) 𝒱₀ (c : Thread nD τ) none) Set.univ p Q

/-! ## Loads and stores -/

section Access
variable (c : Dev nD) (j : Fin 32) (Q : PUnit → sProp (MT nD τ sig Unit (Elt F) ℕ UU ℕ))

/-- The input staged on `c`, the scale, and the result buffer. -/
def xPts : sProp 𝕄 := iprop(((c : Thread nD τ).loc cc0_stg0_0) ↦{fullShare} (xstg m c))
def gPts : sProp 𝕄 := iprop(((c : Thread nD τ).loc cc0_stg1_0) ↦{fullShare} (gstg m c))
def oPts (f : (cc0_stg2_0 : Ref sig .tc).ty.Contents (Elt F)) : sProp 𝕄 := iprop(((c : Thread nD τ).loc cc0_stg2_0) ↦{fullShare} f)

theorem wp_xload (k : Vec F S1x512x128 .f32 → PR F) :
    (xPts m c : sProp 𝕄) ⊢ iprop((xPts m c -∗ wpc c (k (xl m c j)) Q) -∗ wpc c (xloadP c j k) Q) := by
  unfold xPts xloadP
  exact wp_load 𝒱₀ (c : Thread nD τ) none Set.univ (m := xM) (Finset.subset_univ _)

theorem slot_subset : ((scrM (rg j)).access (slotR j)).set ⊆ (slotM j).view.set :=
  Finset.Subset.trans (le_of_eq (View.set_reshape (v := (scrM (rg j)).access (slotR j)) squeezes_S1x512x128_S512x128.numel_eq).symm) (Finset.Subset.refl _)

/-- A load of a slot reads what it holds. -/
theorem wp_sload (X : Vec F S1x512x128 .f32) (k : Vec F S1x512x128 .f32 → PR F) :
    (slotX c j X : sProp 𝕄) ⊢ iprop((slotX c j X -∗ wpc c (k X) Q) -∗ wpc c (sloadP j k) Q) := by
  unfold slotX sloadP
  iintro ⟨%f, %hf, H⟩ Hk
  subst hf
  iapply (wp_load_rect 𝒱₀ (c : Thread nD τ) none Set.univ (m := scrM (rg j)) (r := slotR j) (slot_subset j)) $$ H
  iintro H
  iapply Hk
  iexists f
  isplitr; · (ipureintro; rfl)
  iexact H

/-- A load whose value the program drops. -/
theorem wp_sload_any (n : PR F) :
    (slotAny c j : sProp 𝕄) ⊢ iprop((slotAny c j -∗ wpc c n Q) -∗ wpc c (sloadP j fun _ => n) Q) := by
  unfold slotAny
  iintro ⟨%X, H⟩ Hk
  iapply (wp_sload c j Q X fun _ => n) $$ H
  iintro H
  iapply Hk
  iexists X; iexact H

/-- A store leaves the slot holding what was stored. -/
theorem wp_sstore (w : Vec F S1x512x128 .f32) (n : PR F) :
    (slotAny c j : sProp 𝕄) ⊢ iprop((slotX c j w -∗ wpc c n Q) -∗ wpc c (sstoreP j w n) Q) := by
  unfold slotAny slotX sstoreP
  iintro ⟨%X, %f, -, H⟩ Hk
  iapply (wp_store 𝒱₀ (c : Thread nD τ) none Set.univ (m := scrM (rg j)) (r := slotR j) (Mk := Finset.univ) (slot_subset j)) $$ H
  iintro H
  iapply Hk
  iexists _
  isplitr; rotate_left
  · iexact H
  · ipureintro; exact View.read_write_univ _ _

/-- A quarter of the scale. -/
def gl (off : Fin 1 → Nat) (inb : ∀ a, off a + S128.size a ≤ S512.size a) : Vec F S128 .f32 :=
  gM.view.readAt (Elt F) (Rect.unit (s := S512) off S128.size inb).toLoadRect (gstg m c)
theorem wp_gload (off : Fin 1 → Nat) (inb : ∀ a, off a + S128.size a ≤ S512.size a) (k : Vec F S128 .f32 → PR F) :
    (gPts m c : sProp 𝕄) ⊢ iprop((gPts m c -∗ wpc c (k (gl m c off inb)) Q) -∗ wpc c (gloadP off inb k) Q) := by
  unfold gPts gloadP
  exact wp_load 𝒱₀ (c : Thread nD τ) none Set.univ (m := gM) (Finset.subset_univ _)

/-- The result buffer after one column quarter is written. -/
def outW (off : Fin 2 → Nat) (inb : ∀ a, off a + S512x128.size a ≤ S512x512.size a) (w : Vec F S512x128 .f32)
    (f : (cc0_stg2_0 : Ref sig .tc).ty.Contents (Elt F)) : (cc0_stg2_0 : Ref sig .tc).ty.Contents (Elt F) :=
  (oM.access (Rect.unit (s := S512x512) off S512x128.size inb)).write (Elt F) f w Finset.univ
theorem wp_out (off : Fin 2 → Nat) (inb : ∀ a, off a + S512x128.size a ≤ S512x512.size a) (w : Vec F S512x128 .f32) (n : PR F)
    (f : (cc0_stg2_0 : Ref sig .tc).ty.Contents (Elt F)) :
    (oPts c f : sProp 𝕄) ⊢ iprop((oPts c (outW off inb w f) -∗ wpc c n Q) -∗ wpc c (outP off inb w n) Q) := by
  unfold oPts outP outW
  iintro H Hk
  iapply (wp_load 𝒱₀ (c : Thread nD τ) none Set.univ (m := oM) (Finset.subset_univ _)) $$ H; iintro H
  iapply (wp_store 𝒱₀ (c : Thread nD τ) none Set.univ (m := oM) (r := Rect.unit (s := S512x512) off S512x128.size inb) (Mk := Finset.univ)
    (Finset.subset_univ _)) $$ H; iintro H
  iapply Hk; iexact H

end Access

/-! ## The state between two steps -/

/-- When hop `j` is drained. -/
def dr (j : ℕ) : ℕ := j % 4 * 7 + j / 4

variable (K : Dev nD × Option (Bool × Fin 28) → ℕ)

/-- Every cell's invariant, and that its round 0 is reached. -/
def records : sProp 𝕄 :=
  iprop((bigSep Finset.univ fun ck : Dev nD × Option (Bool × Fin 28) => cellInv ER (ringRd m) (K ck) (kcell ck))
    ∗ bigSep Finset.univ fun ck : Dev nD × Option (Bool × Fin 28) => reached ER (kcell ck) 0)

instance records_persistent : BI.Persistent (records m K) := by unfold records; infer_instance

theorem inv_at (c : Dev nD) (x : Option (Bool × Fin 28)) : records m K ⊢ cellInv ER (ringRd m) (K (c, x)) (kcell (c, x)) :=
  Entails.trans (by unfold records; iintro ⟨H, -⟩; iexact H)
    (bigSep_elim (Φ := fun ck : Dev nD × Option (Bool × Fin 28) => (cellInv ER (ringRd m) (K ck) (kcell ck) : sProp 𝕄)) (Finset.mem_univ (c, x)))
theorem reached_at (c : Dev nD) (x : Option (Bool × Fin 28)) : records m K ⊢ reached ER (kcell (c, x)) 0 :=
  Entails.trans (by unfold records; iintro ⟨-, H⟩; iexact H)
    (bigSep_elim (Φ := fun ck : Dev nD × Option (Bool × Fin 28) => (reached ER (kcell ck) 0 : sProp 𝕄)) (Finset.mem_univ (c, x)))

section State
variable (c : Dev nD)

/-- Slot `j` once `e` slots are accumulated, `a` hops started and `d` drained: seeds not yet written are the device's to
fill, slots to be filled by a hop are lent, slots accumulated are the device's except while a copy holds them. -/
def slotP (e a d : ℕ) (j : Fin 32) : sProp 𝕄 :=
  if j.val < e then (if j.val < a ∧ ¬ dr j.val < d then iprop(emp) else slotX c j (A m c j))
  else if j.val < 4 then slotAny c j else iprop(emp)
/-- What the device holds for sending hop `k`: before, the slot to fill with the two duties to pay; while it is under way,
the right to wait; after the drain, the closed cell. -/
def sndP (a d : ℕ) (k : Fin 28) : sProp 𝕄 :=
  if k.val < a then (if dr k.val < d then semVal (sendCell c k) 0 else iprop(cred (tallyAt (sendCell c k) () N) ∗ atPos ER (sendCell c k) 0 ∅ 0))
  else iprop(slotAny (tgt k.val c) (dl k) ∗ dutyTok ER (sendCell c k) 0 false ∗ dutyTok ER (recvCell (tgt k.val c) k) 0 false ∗ atPos ER (sendCell c k) 0 ∅ 0)
/-- What it holds for receiving hop `k`: the right to wait, then the closed cell. -/
def rcvP (b : ℕ) (k : Fin 28) : sProp 𝕄 :=
  if k.val < b then semVal (recvCell c k) 0 else iprop(cred (tallyAt (recvCell c k) () N) ∗ atPos ER (recvCell c k) 0 ∅ 0)

/-- The state of device `c` once `e` slots are accumulated, `a` hops started, `b` received and `d` drained. -/
def St (e a b d : ℕ) (f : (cc0_stg2_0 : Ref sig .tc).ty.Contents (Elt F)) : sProp 𝕄 :=
  iprop(records m K ∗ levAts L lv ∗ bigSep Finset.univ (slotP m c e a d) ∗ bigSep Finset.univ (sndP (F := F) c a d) ∗ bigSep Finset.univ (rcvP (F := F) c b)
    ∗ (∃ W, owes (c : Thread nD τ) (Oa c a) W) ∗ xPts m c ∗ gPts m c ∗ oPts c f ∗ semVal (barCell c) 0)

end State

/-! ## The steps -/

/-- A step proved with its continuation beside the state. -/
theorem step_of {P P' W V : sProp 𝕄} (h : P' ⊢ W) (hv : iprop(P ∗ (P' -∗ W)) ⊢ V) : P ⊢ V :=
  BIBase.Entails.trans (by iintro H; isplitl [H]; · iexact H
                           iintro H; iapply h; iexact H) hv

section Step
variable (c : Dev nD) (n : PR F) (Q : PUnit → sProp (MT nD τ sig Unit (Elt F) ℕ UU ℕ)) (f : (cc0_stg2_0 : Ref sig .tc).ty.Contents (Elt F))

/-- A seed. -/
theorem wp_seed (r : Fin 32) (hr : r.val < 4) (h : St m K c (r.val + 1) 0 0 0 f ⊢ wpc c n Q) : St m K c r.val 0 0 0 f ⊢ wpc c (seedP c r n) Q := by
  unfold seedP
  have hs := bigSep_univ_update (Φ := slotP m c r.val 0 0) (Ψ := slotP m c (r.val + 1) 0 0) r fun j hj => by
    have : j.val ≠ r.val := fun e => hj (Fin.ext e)
    unfold slotP
    by_cases h1 : j.val < r.val
    · rw [if_pos h1, if_pos (by omega)]
    · rw [if_neg h1, if_neg (by omega)]
  have e0 : slotP m c r.val 0 0 r = slotAny c r := by unfold slotP; rw [if_neg (by omega), if_pos hr]
  have e1 : slotP m c (r.val + 1) 0 0 r = slotX c r (k0_pay3 (xl m c r)) := by
    unfold slotP; rw [if_pos (by omega), if_neg (by omega), A_seed m c r hr]
  rw [e0, e1] at hs
  refine step_of h ?_
  unfold St
  iintro ⟨⟨#HR, #HL, Hs, Hsn, Hrc, HO, Hx, Hg, Ho, HB⟩, Hk⟩
  ihave Hs := hs $$ Hs
  icases Hs with ⟨Hr, Hs⟩
  iapply (wp_xload m c r Q _) $$ Hx; iintro Hx
  iapply (wp_sload_any c r Q _) $$ Hr; iintro Hr
  iapply (wp_sstore c r Q _ n) $$ Hr; iintro Hr
  iapply Hk
  isplitr; · iexact HR
  isplitr; · iexact HL
  isplitl [Hs Hr]; · iapply Hs; iexact Hr
  isplitl [Hsn]; · iexact Hsn
  isplitl [Hrc]; · iexact Hrc
  isplitl [HO]; · iexact HO
  isplitl [Hx]; · iexact Hx
  isplitl [Hg]; · iexact Hg
  isplitl [Ho]; · iexact Ho
  iexact HB

/-- The start of a copy, at the ring's cells. -/
theorem wp_copy (k : Fin 28) (t : Dev nD) (ht : t = tgt k.val c)
    {hsc : (slotM (dl k)).view.ref.isScScratch = false} {hsrc : (slotM (sl k)).view.WordExact} {hdst : (slotM (dl k)).view.WordExact}
    {hsem : DmaTarget.Typed .vmem (.dma (recvS k)) (.remote (Dev.tc t : Thread nD τ) (slotM (dl k)) (.dma (sendS k)) hsc)}
    {kk : PUnit → PR F} (O : CellTallies nD τ sig Unit) (W : Waits sig Unit) (κ₁ κ₂ : ℕ) :
    iprop(cellInv ER (ringRd m) κ₁ (sendCell c k) ∗ cellInv ER (ringRd m) κ₂ (recvCell (tgt k.val c) k)
        ∗ slotX c (sl k) (A m c (sl k)) ∗ slotAny (tgt k.val c) (dl k)
        ∗ owes (c : Thread nD τ) (O + tallyAt (recvCell (tgt k.val c) k) () N) W
        ∗ dutyTok ER (sendCell c k) 0 false ∗ reached ER (sendCell c k) 0
        ∗ dutyTok ER (recvCell (tgt k.val c) k) 0 false ∗ reached ER (recvCell (tgt k.val c) k) 0)
      ⊢ iprop(((cred (tallyAt (sendCell c k) () N) ∗ owes (c : Thread nD τ) O W) -∗ wpc c (kk ⟨⟩) Q)
          -∗ wpc c (.op (.enqueueDma (slotM (sl k)) (.remote (Dev.tc t : Thread nD τ) (slotM (dl k)) (.dma (sendS k)) hsc) (.dma (recvS k)) hsrc hdst hsem) kk) Q) := by
  subst ht
  iintro ⟨H1, H2, Hs, Hd, HO, H3, H4, H5, H6⟩
  ihave Hs := (show (slotX c (sl k) (A m c (sl k)) : sProp 𝕄) ⊢ _ by unfold slotX; exact Entails.refl _) $$ Hs
  icases Hs with ⟨%fs, %hfs, Hs⟩
  ihave Hd := (slotAny_eq (tgt k.val c) (dl k)).1 $$ Hd
  icases Hd with ⟨%fd, Hd⟩
  iapply (Rounds.wp_send_pointsTo 𝒱₀ ER (ringRd m) (c : Thread nD τ) none (κ₁ := κ₁) (κ₂ := κ₂)
    (r₁ := 0) (r₂ := 0) (d₁ := false) (d₂ := false) (fd := fd) (fs := fs)
    (by rw [duties_send]; exact Finset.mem_singleton_self _) (by rw [duties_recv]; exact Finset.mem_singleton_self _)
    () () N (by exact credit_eq (dl k)) rfl rfl O rfl (W := W)
    (by rw [payload_send]; unfold sendPay slotX; iintro H; iexists fs; isplitr; · (ipureintro; exact hfs)
        iexact H)
    (by rw [payload_recv]; unfold recvPay slotX; rw [src_tgt]; iintro H; iexists _; isplitr; rotate_left; · iexact H
        ipureintro; exact (landed_read (sl k) (dl k) fd fs).trans hfs)) $$ [H1 H2 Hs Hd HO H3 H4 H5 H6]
  isplitl [H1]; · iexact H1
  isplitl [H2]; · iexact H2
  isplitl [Hs]; · iexact Hs
  isplitl [Hd]; · iexact Hd
  isplitl [HO]; · iexact HO
  isplitl [H3]; · iexact H3
  isplitl [H4]; · iexact H4
  isplitl [H5] <;> iassumption

/-- Hop `k` started. -/
theorem wp_sendStep (k : Fin 28) (e b : ℕ) (he : k.val < e) (h : St m K c e (k.val + 1) b 0 f ⊢ wpc c n Q) :
    St m K c e k.val b 0 f ⊢ wpc c (sendP c k n) Q := by
  have hs := bigSep_univ_update (Φ := slotP m c e k.val 0) (Ψ := slotP m c e (k.val + 1) 0) (sl k) fun j hj => by
    have : j.val ≠ k.val := fun e => hj (Fin.ext e)
    unfold slotP
    have hi : (j.val < k.val + 1 ∧ ¬ dr j.val < 0) ↔ (j.val < k.val ∧ ¬ dr j.val < 0) := by
      constructor <;> rintro ⟨h1, h2⟩ <;> exact ⟨by omega, h2⟩
    simp only [hi]
  have e0 : slotP m c e k.val 0 (sl k) = slotX c (sl k) (A m c (sl k)) := by
    unfold slotP; rw [if_pos he, if_neg (fun h => absurd h.1 (lt_irrefl _))]
  have e1 : slotP m c e (k.val + 1) 0 (sl k) = iprop(emp) := by
    unfold slotP; rw [if_pos he, if_pos ⟨Nat.lt_succ_self _, Nat.not_lt_zero _⟩]
  rw [e0, e1] at hs
  have hn := bigSep_univ_update (Φ := sndP (F := F) c k.val 0) (Ψ := sndP c (k.val + 1) 0) k fun j hj => by
    have : j.val ≠ k.val := fun e => hj (Fin.ext e)
    unfold sndP
    by_cases h1 : j.val < k.val
    · rw [if_pos h1, if_pos (by omega)]
    · rw [if_neg h1, if_neg (by omega)]
  have e2 : sndP (F := F) c k.val 0 k = iprop(slotAny (tgt k.val c) (dl k) ∗ dutyTok ER (sendCell c k) 0 false
      ∗ dutyTok ER (recvCell (tgt k.val c) k) 0 false ∗ atPos ER (sendCell c k) 0 ∅ 0) := by unfold sndP; rw [if_neg (lt_irrefl _)]
  have e3 : sndP (F := F) c (k.val + 1) 0 k = iprop(cred (tallyAt (sendCell c k) () N) ∗ atPos ER (sendCell c k) 0 ∅ 0) := by
    unfold sndP; rw [if_pos (Nat.lt_succ_self _), if_neg (Nat.not_lt_zero _)]
  rw [e2, e3] at hn
  refine step_of h ?_
  unfold St sendP
  iintro ⟨⟨#HR, #HL, Hs, Hsn, Hrc, ⟨%W, HO⟩, Hx, Hg, Ho, HB⟩, Hk⟩
  ihave Hs := hs $$ Hs
  icases Hs with ⟨Hr, Hs⟩
  ihave Hsn := hn $$ Hsn
  icases Hsn with ⟨⟨Hd, Ht1, Ht2, Hat⟩, Hsn⟩
  rw [Oa_step c k]
  iapply (wp_copy m c Q k _ (devP_eq c k) (Oa c (k.val + 1)) W (K (c, iSend k)) (K (tgt k.val c, iRecv k))) $$ [Hr Hd HO Ht1 Ht2]
  · isplitr; · iapply (inv_at m K c (iSend k)); iexact HR
    isplitr; · iapply (inv_at m K (tgt k.val c) (iRecv k)); iexact HR
    isplitl [Hr]; · iexact Hr
    isplitl [Hd]; · iexact Hd
    isplitl [HO]; · iexact HO
    isplitl [Ht1]; · iexact Ht1
    isplitr; · iapply (reached_at m K c (iSend k)); iexact HR
    isplitl [Ht2]; · iexact Ht2
    iapply (reached_at m K (tgt k.val c) (iRecv k)); iexact HR
  iintro ⟨Hc, HO⟩
  iapply Hk
  isplitr; · iexact HR
  isplitr; · iexact HL
  isplitl [Hs]; · iapply Hs; iempintro
  isplitl [Hsn Hc Hat]; · (iapply Hsn; isplitl [Hc] <;> iassumption)
  isplitl [Hrc]; · iexact Hrc
  isplitl [HO]; · iexists W; iexact HO
  isplitl [Hx]; · iexact Hx
  isplitl [Hg]; · iexact Hg
  isplitl [Ho]; · iexact Ho
  iexact HB

/-- Hop `k` received and accumulated. -/
theorem wp_hop (k : Fin 28) (a : ℕ) (ha : k.val < a) (ha' : a ≤ k.val + 4) (h : St m K c (k.val + 5) a (k.val + 1) 0 f ⊢ wpc c n Q) :
    St m K c (k.val + 4) a k.val 0 f ⊢ wpc c (hopP c k n) Q := by
  have hs := bigSep_univ_update (Φ := slotP m c (k.val + 4) a 0) (Ψ := slotP m c (k.val + 5) a 0) (dl k) fun j hj => by
    have : j.val ≠ k.val + 4 := fun e => hj (Fin.ext e)
    unfold slotP
    by_cases h1 : j.val < k.val + 4
    · rw [if_pos h1, if_pos (by omega)]
    · rw [if_neg h1, if_neg (by omega)]
  have e0 : slotP m c (k.val + 4) a 0 (dl k) = iprop(emp) := by
    unfold slotP; rw [if_neg (lt_irrefl _), if_neg (by show ¬ k.val + 4 < 4; omega)]
  have e1 : slotP m c (k.val + 5) a 0 (dl k) = slotX c (dl k) (k0_pay7 (A m (src k.val c) (sl k)) (xl m c (dl k))) := by
    unfold slotP; rw [if_pos (Nat.lt_succ_self _), if_neg (fun h => absurd h.1 (by show ¬ k.val + 4 < a; omega)), A_step]
  rw [e0, e1] at hs
  have hn := bigSep_univ_update (Φ := rcvP (F := F) c k.val) (Ψ := rcvP c (k.val + 1)) k fun j hj => by
    have : j.val ≠ k.val := fun e => hj (Fin.ext e)
    unfold rcvP
    by_cases h1 : j.val < k.val
    · rw [if_pos h1, if_pos (by omega)]
    · rw [if_neg h1, if_neg (by omega)]
  have e2 : rcvP (F := F) c k.val k = iprop(cred (tallyAt (recvCell c k) () N) ∗ atPos ER (recvCell c k) 0 ∅ 0) := by unfold rcvP; rw [if_neg (lt_irrefl _)]
  have e3 : rcvP (F := F) c (k.val + 1) k = semVal (recvCell c k) 0 := by unfold rcvP; rw [if_pos (Nat.lt_succ_self _)]
  rw [e2, e3] at hn
  refine step_of h ?_
  unfold St hopP recvP
  iintro ⟨⟨#HR, #HL, Hs, Hsn, Hrc, ⟨%W, HO⟩, Hx, Hg, Ho, HB⟩, Hk⟩
  ihave Hs := hs $$ Hs
  icases Hs with ⟨-, Hs⟩
  ihave Hrc := hn $$ Hrc
  icases Hrc with ⟨⟨Hc, Hat⟩, Hrc⟩
  iapply (Rounds.wp_wait_rest_token 𝒱₀ ER (ringRd m) (c : Thread nD τ) none (κ := K (c, iRecv k))
      (wpE_waitDma2_eq 𝒱₀ (c : Thread nD τ) none Set.univ) (Set.mem_univ _) () (O := Oa c a) (W := W) (R := 0) (m := 0) (T := ∅)
      (by rw [Nat.zero_add, expect_recv]; exact credit_eq (dl k))) $$ [Hc HO Hat]
  · isplitr; · iapply (inv_at m K c (iRecv k)); iexact HR
    isplitl [Hc]; · rw [show (slotM (dl k)).view.dmaCredit = N from credit_eq (dl k)]; iexact Hc
    isplitl [HO]; · iexact HO
    isplitr; · iapply (mayWait_recv c k a ha); iexact HL
    iexact Hat
  iintro ⟨HO, Hat, -, Hp⟩
  ihave Hr := (Entails.of_eq (rest_recv m c k)) $$ Hp
  unfold recvPay
  imod (Rounds.cell_close ER (ringRd m) (Set.mem_univ (K (c, iRecv k))) (fun h => h) (R := 0 + 1) (duties_later m (recvCell c k))) $$ [Hat] with Hz
  · isplitr; · iapply (inv_at m K c (iRecv k)); iexact HR
    iexact Hat
  iapply (wp_sload c (dl k) Q _ _) $$ Hr; iintro Hr
  iapply (wp_xload m c (dl k) Q _) $$ Hx; iintro Hx
  ihave Hr := (slotX_any c (dl k) _) $$ Hr
  iapply (wp_sload_any c (dl k) Q _) $$ Hr; iintro Hr
  iapply (wp_sstore c (dl k) Q _ n) $$ Hr; iintro Hr
  iapply Hk
  isplitr; · iexact HR
  isplitr; · iexact HL
  isplitl [Hs Hr]; · iapply Hs; iexact Hr
  isplitl [Hsn]; · iexact Hsn
  isplitl [Hrc Hz]; · iapply Hrc; iexact Hz
  isplitl [HO]; · iexists _; iexact HO
  isplitl [Hx]; · iexact Hx
  isplitl [Hg]; · iexact Hg
  isplitl [Ho]; · iexact Ho
  iexact HB

theorem dr_drOf (d : ℕ) (h : d < 28) : dr (drOf d h).val = d := by show (4 * (d % 7) + d / 7) % 4 * 7 + (4 * (d % 7) + d / 7) / 4 = d; omega
theorem dr_inj (i j : ℕ) (h : dr i = dr j) (hi : i < 28) (hj : j < 28) : i = j := by unfold dr at h; omega

/-- The `d`-th hop drained. -/
theorem wp_drain (d : ℕ) (hd : d < 28) (h : St m K c 32 28 28 (d + 1) f ⊢ wpc c n Q) : St m K c 32 28 28 d f ⊢ wpc c (drainP (drOf d hd) n) Q := by
  obtain ⟨k, hk, hdr⟩ : ∃ k : Fin 28, k = drOf d hd ∧ dr k.val = d := ⟨_, rfl, dr_drOf d hd⟩
  rw [← hk]
  have hs := bigSep_univ_update (Φ := slotP m c 32 28 d) (Ψ := slotP m c 32 28 (d + 1)) (sl k) fun j hj => by
    have hne : j.val ≠ k.val := fun e => hj (Fin.ext e)
    unfold slotP
    have hi : (j.val < 28 ∧ ¬ dr j.val < d + 1) ↔ (j.val < 28 ∧ ¬ dr j.val < d) := by
      constructor
      · rintro ⟨h1, h2⟩; exact ⟨h1, by omega⟩
      · rintro ⟨h1, h2⟩
        exact ⟨h1, fun h3 => hne (dr_inj _ _ (by omega) h1 k.isLt)⟩
    simp only [hi]
  have e0 : slotP m c 32 28 d (sl k) = iprop(emp) := by
    unfold slotP; rw [if_pos (by show k.val < 32; omega), if_pos ⟨k.isLt, by show ¬ dr k.val < d; omega⟩]
  have e1 : slotP m c 32 28 (d + 1) (sl k) = slotX c (sl k) (A m c (sl k)) := by
    unfold slotP; rw [if_pos (by show k.val < 32; omega), if_neg (fun h => h.2 (by show dr k.val < d + 1; omega))]
  rw [e0, e1] at hs
  have hn := bigSep_univ_update (Φ := sndP (F := F) c 28 d) (Ψ := sndP c 28 (d + 1)) k fun j hj => by
    have hne : j.val ≠ k.val := fun e => hj (Fin.ext e)
    have h1 : dr j.val ≠ d := fun e => hne (dr_inj _ _ (by omega) j.isLt k.isLt)
    unfold sndP
    rw [if_pos j.isLt, if_pos j.isLt]
    by_cases h2 : dr j.val < d
    · rw [if_pos h2, if_pos (by omega)]
    · rw [if_neg h2, if_neg (by omega)]
  have e2 : sndP (F := F) c 28 d k = iprop(cred (tallyAt (sendCell c k) () N) ∗ atPos ER (sendCell c k) 0 ∅ 0) := by
    unfold sndP; rw [if_pos k.isLt, if_neg (by omega)]
  have e3 : sndP (F := F) c 28 (d + 1) k = semVal (sendCell c k) 0 := by unfold sndP; rw [if_pos k.isLt, if_pos (by omega)]
  rw [e2, e3] at hn
  refine step_of h ?_
  unfold St drainP
  rw [Oa_end]
  iintro ⟨⟨#HR, #HL, Hs, Hsn, Hrc, ⟨%W, HO⟩, Hx, Hg, Ho, HB⟩, Hk⟩
  ihave Hs := hs $$ Hs
  icases Hs with ⟨-, Hs⟩
  ihave Hsn := hn $$ Hsn
  icases Hsn with ⟨⟨Hc, Hat⟩, Hsn⟩
  iapply (Rounds.wp_wait_rest_token 𝒱₀ ER (ringRd m) (c : Thread nD τ) none (κ := K (c, iSend k))
      (wpE_waitDma2_eq 𝒱₀ (c : Thread nD τ) none Set.univ) (Set.mem_univ _) () (O := 0) (W := W) (R := 0) (m := 0) (T := ∅)
      (by rw [Nat.zero_add, expect_send]; exact credit_eq (sl k))) $$ [Hc HO Hat]
  · isplitr; · iapply (inv_at m K c (iSend k)); iexact HR
    isplitl [Hc]; · rw [show (slotM (sl k)).view.dmaCredit = N from credit_eq (sl k)]; iexact Hc
    isplitl [HO]; · iexact HO
    isplitr; · rw [MayWait_zero]; iempintro
    iexact Hat
  iintro ⟨HO, Hat, -, Hp⟩
  ihave Hr := (Entails.of_eq (rest_send m c k)) $$ Hp
  unfold sendPay
  imod (Rounds.cell_close ER (ringRd m) (Set.mem_univ (K (c, iSend k))) (fun h => h) (R := 0 + 1) (duties_later m (sendCell c k))) $$ [Hat] with Hz
  · isplitr; · iapply (inv_at m K c (iSend k)); iexact HR
    iexact Hat
  iapply Hk
  isplitr; · iexact HR
  isplitr; · iexact HL
  isplitl [Hs Hr]; · iapply Hs; iexact Hr
  isplitl [Hsn Hz]; · iapply Hsn; iexact Hz
  isplitl [Hrc]; · iexact Hrc
  isplitl [HO]; · iexists _; iexact HO
  isplitl [Hx]; · iexact Hx
  isplitl [Hg]; · iexact Hg
  isplitl [Ho]; · iexact Ho
  iexact HB

end Step

end Cert.KernelIdealProof

end
-- ==== Proof.Ideal.Body.lean ====
/-
# The body of one device

From the barrier's duties and the lent slots, through the seeds, the twenty-eight hops and the drains, to the result
buffer: the steps of `Steps` in the program's order, the hops and the drains by induction.
-/
module

public import proofs.«01_k».proof.Proof.Ideal.Steps
public import Idealize.ShloMosaic.Lib.Pointwise.Index

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Bool × Fin 28) → ℕ)

/-! ## The result -/

/-- The column quarters of the result. -/
def quart (c : Dev nD) : Fin 4 → Vec F S512x128 .f32
  | 0 => k0_pay48 (k0_pay42 (A m c 28)) (k0_pay47 (A m c 28) (A m c 29) (A m c 30) (A m c 31)) (gl m c ![0] inb_S512_S128_0)
  | 1 => k0_pay1 (k0_pay44 (A m c 30)) (k0_pay46 (A m c 28) (A m c 29) (A m c 30) (A m c 31)) (gl m c ![128] inb_S512_S128_128)
  | 2 => k0_pay49 (k0_pay43 (A m c 29)) (k0_pay46 (A m c 28) (A m c 29) (A m c 30) (A m c 31)) (gl m c ![256] inb_S512_S128_256)
  | 3 => k0_pay2 (k0_pay45 (A m c 31)) (k0_pay46 (A m c 28) (A m c 29) (A m c 30) (A m c 31)) (gl m c ![384] inb_S512_S128_384)

/-- The result buffer as the body leaves it. -/
def outAt (c : Dev nD) : (cc0_stg2_0 : Ref sig .tc).ty.Contents (Elt F) := fun i : S512x512.Idx =>
  quart m c ⟨(i 1).val / 128, Nat.div_lt_of_lt_mul (i 1).isLt⟩ (ix2 (n0 := 512) (n1 := 128) (i 0) ⟨(i 1).val % 128, Nat.mod_lt _ (by decide)⟩)

omit [FloatOps F] in
/-- One column quarter written: inside it what was written, outside what was there. -/
theorem outW_apply (q : Fin 4) (inb : ∀ a, (![0, 128 * q.val] : Fin 2 → Nat) a + S512x128.size a ≤ S512x512.size a) (w : Vec F S512x128 .f32)
    (f : (cc0_stg2_0 : Ref sig .tc).ty.Contents (Elt F)) (i : S512x512.Idx) :
    outW ![0, 128 * q.val] inb w f i = if (i 1).val / 128 = q.val then w (ix2 (n0 := 512) (n1 := 128) (i 0) ⟨(i 1).val % 128, Nat.mod_lt _ (by decide)⟩) else f i := by
  unfold outW
  split
  · rename_i h
    have e : i = (oM.access (Rect.unit (s := S512x512) ![0, 128 * q.val] S512x128.size inb)).emb
        (ix2 (n0 := 512) (n1 := 128) (i 0) ⟨(i 1).val % 128, Nat.mod_lt _ (by decide)⟩) := by
      funext a
      apply Fin.ext
      match a with
      | ⟨0, _⟩ => show (i 0).val = 0 + 1 * (i 0).val; omega
      | ⟨1, _⟩ => show (i 1).val = 128 * q.val + 1 * ((i 1).val % 128); omega
    conv_lhs => rw [e]
    rw [View.write_emb_of_mem _ _ (Finset.mem_univ _)]
    rfl
  · rename_i h
    refine View.write_of_not_mem _ _ _ fun hi => h ?_
    obtain ⟨x, -, e⟩ := Finset.mem_map.mp hi
    have e1 : (i 1).val = 128 * q.val + 1 * (x 1).val := congrArg (fun i : S512x512.Idx => (i 1).val) e.symm
    have : (x 1).val < 128 := (x 1).isLt
    omega

/-- The four writes in the program's order leave the result, whatever was there. -/
theorem out_eq (c : Dev nD) (f : (cc0_stg2_0 : Ref sig .tc).ty.Contents (Elt F)) :
    outW ![0, 384] inb_S512x512_S512x128_0_384 (quart m c 3) (outW ![0, 128] inb_S512x512_S512x128_0_128 (quart m c 1)
      (outW ![0, 256] inb_S512x512_S512x128_0_256 (quart m c 2) (outW ![0, 0] inb_S512x512_S512x128_0_0 (quart m c 0) f))) = outAt m c := by
  funext i
  have hi : ((i : S512x512.Idx) 1).val < 512 := ((i : S512x512.Idx) 1).isLt
  refine (outW_apply 3 inb_S512x512_S512x128_0_384 _ _ i).trans ?_
  by_cases h3 : ((i : S512x512.Idx) 1).val / 128 = (3 : Fin 4).val
  · rw [if_pos h3]; unfold outAt; rw [show (⟨((i : S512x512.Idx) 1).val / 128, _⟩ : Fin 4) = 3 from Fin.ext h3]
  rw [if_neg h3]
  refine (outW_apply 1 inb_S512x512_S512x128_0_128 _ _ i).trans ?_
  by_cases h1 : ((i : S512x512.Idx) 1).val / 128 = (1 : Fin 4).val
  · rw [if_pos h1]; unfold outAt; rw [show (⟨((i : S512x512.Idx) 1).val / 128, _⟩ : Fin 4) = 1 from Fin.ext h1]
  rw [if_neg h1]
  refine (outW_apply 2 inb_S512x512_S512x128_0_256 _ _ i).trans ?_
  by_cases h2 : ((i : S512x512.Idx) 1).val / 128 = (2 : Fin 4).val
  · rw [if_pos h2]; unfold outAt; rw [show (⟨((i : S512x512.Idx) 1).val / 128, _⟩ : Fin 4) = 2 from Fin.ext h2]
  rw [if_neg h2]
  refine (outW_apply 0 inb_S512x512_S512x128_0_0 _ _ i).trans ?_
  have h0 : ((i : S512x512.Idx) 1).val / 128 = (0 : Fin 4).val := by
    change ¬ _ = 3 at h3; change ¬ _ = 1 at h1; change ¬ _ = 2 at h2; show _ = 0; omega
  rw [if_pos h0]; unfold outAt; rw [show (⟨((i : S512x512.Idx) 1).val / 128, _⟩ : Fin 4) = 0 from Fin.ext h0]

/-! ## The hops and the drains -/

section Runs
variable (c : Dev nD) (n : PR F) (Q : PUnit → sProp (MT nD τ sig Unit (Elt F) ℕ UU ℕ)) (f : (cc0_stg2_0 : Ref sig .tc).ty.Contents (Elt F))

/-- The last `i` hops. -/
theorem wp_hops (h : St m K c 32 28 28 0 f ⊢ wpc c n Q) : ∀ (i : ℕ) (hi : i ≤ 28),
    St m K c (32 - i) (min 28 (32 - i)) (28 - i) 0 f ⊢ wpc c (hopsP c i hi n) Q
  | 0, _ => h
  | i + 1, hi => by
    have ih := wp_hops h i (by omega)
    have step := wp_hop m K c (if h4 : 4 ≤ i then sendP c ⟨31 - i, by omega⟩ (hopsP c i (by omega) n) else hopsP c i (by omega) n) Q f
      ⟨27 - i, by omega⟩ (min 28 (31 - i)) (by show 27 - i < _; omega) (by show _ ≤ 27 - i + 4; omega)
    change (St m K c (27 - i + 5) (min 28 (31 - i)) (27 - i + 1) 0 f ⊢ _) → (St m K c (27 - i + 4) (min 28 (31 - i)) (27 - i) 0 f ⊢ _) at step
    rw [show 27 - i + 5 = 32 - i from by omega, show 27 - i + 1 = 28 - i from by omega, show 27 - i + 4 = 32 - (i + 1) from by omega] at step
    rw [show 28 - (i + 1) = 27 - i from by omega, show min 28 (32 - (i + 1)) = min 28 (31 - i) from by omega]
    refine step ?_
    split
    · rename_i h4
      have hs := wp_sendStep m K c (hopsP c i (by omega) n) Q f ⟨31 - i, by omega⟩ (32 - i) (28 - i) (by show 31 - i < _; omega)
      change (St m K c (32 - i) (31 - i + 1) (28 - i) 0 f ⊢ _) → (St m K c (32 - i) (31 - i) (28 - i) 0 f ⊢ _) at hs
      rw [show 31 - i + 1 = min 28 (32 - i) from by omega] at hs
      have := hs ih
      rw [show min 28 (31 - i) = 31 - i from by omega]
      exact this
    · rename_i h4
      rw [show min 28 (31 - i) = min 28 (32 - i) from by omega]
      exact ih

/-- The last `i` drains. -/
theorem wp_drains (h : St m K c 32 28 28 28 f ⊢ wpc c n Q) : ∀ (i : ℕ) (hi : i ≤ 28),
    St m K c 32 28 28 (28 - i) f ⊢ wpc c (drainsP i hi n) Q
  | 0, _ => h
  | i + 1, hi => by
    have ih := wp_drains h i (by omega)
    have step := wp_drain m K c (drainsP i (by omega) n) Q f (27 - i) (by omega)
    rw [show 27 - i + 1 = 28 - i from by omega] at step
    have := step ih
    rw [show 28 - (i + 1) = 27 - i from by omega]
    exact this

/-- The last slots read, the result written. -/
theorem wp_fin (h : St m K c 32 28 28 28 (outAt m c) ⊢ Q ⟨⟩) : St m K c 32 28 28 28 f ⊢ wpc c finP Q := by
  have hs (j : Fin 32) (hj : 28 ≤ j.val) : bigSep Finset.univ (slotP m c 32 28 28) ⊢ iprop(slotX c j (A m c j) ∗ (slotX c j (A m c j) -∗ bigSep Finset.univ (slotP m c 32 28 28))) := by
    have := bigSep_univ_update (Φ := slotP m c 32 28 28) (Ψ := slotP m c 32 28 28) j fun _ _ => rfl
    rw [show slotP m c 32 28 28 j = slotX c j (A m c j) from by unfold slotP; rw [if_pos j.isLt, if_neg (fun h => absurd h.1 (by omega))]] at this
    exact this
  refine step_of (W := Q ⟨⟩) h ?_
  unfold St finP
  iintro ⟨⟨#HR, #HL, Hs, Hsn, Hrc, HO, Hx, Hg, Ho, HB⟩, Hk⟩
  ihave Hs := hs 28 (le_refl _) $$ Hs
  icases Hs with ⟨Hr, Hs⟩
  iapply (wp_sload c 28 Q _ _) $$ Hr; iintro Hr
  ihave Hs := Hs $$ Hr
  ihave Hs := hs 29 (by decide) $$ Hs
  icases Hs with ⟨Hr, Hs⟩
  iapply (wp_sload c 29 Q _ _) $$ Hr; iintro Hr
  ihave Hs := Hs $$ Hr
  ihave Hs := hs 30 (by decide) $$ Hs
  icases Hs with ⟨Hr, Hs⟩
  iapply (wp_sload c 30 Q _ _) $$ Hr; iintro Hr
  ihave Hs := Hs $$ Hr
  ihave Hs := hs 31 (by decide) $$ Hs
  icases Hs with ⟨Hr, Hs⟩
  iapply (wp_sload c 31 Q _ _) $$ Hr; iintro Hr
  ihave Hs := Hs $$ Hr
  iapply (wp_gload m c Q _ _ _) $$ Hg; iintro Hg
  iapply (wp_out c Q _ _ _ _ _) $$ Ho; iintro Ho
  iapply (wp_gload m c Q _ _ _) $$ Hg; iintro Hg
  iapply (wp_out c Q _ _ _ _ _) $$ Ho; iintro Ho
  iapply (wp_gload m c Q _ _ _) $$ Hg; iintro Hg
  iapply (wp_out c Q _ _ _ _ _) $$ Ho; iintro Ho
  iapply (wp_gload m c Q _ _ _) $$ Hg; iintro Hg
  iapply (wp_out c Q _ _ _ _ _) $$ Ho; iintro Ho
  unfold wpc
  rw [wp_ret]; imodintro
  iapply Hk
  isplitr; · iexact HR
  isplitr; · iexact HL
  isplitl [Hs]; · iexact Hs
  isplitl [Hsn]; · iexact Hsn
  isplitl [Hrc]; · iexact Hrc
  isplitl [HO]; · iexact HO
  isplitl [Hx]; · iexact Hx
  isplitl [Hg]; · iexact Hg
  isplitl [Ho]; · rw [← out_eq m c f]; iexact Ho
  iexact HB

set_option maxRecDepth 10000 in
/-- From the barrier on. -/
theorem wp_after (h : St m K c 32 28 28 28 (outAt m c) ⊢ Q ⟨⟩) : St m K c 0 0 0 0 f ⊢ wpc c (afterP c) Q := by
  unfold afterP
  refine wp_seed m K c _ Q f 0 (by decide) ?_
  refine wp_seed m K c _ Q f 1 (by decide) ?_
  refine wp_seed m K c _ Q f 2 (by decide) ?_
  refine wp_seed m K c _ Q f 3 (by decide) ?_
  refine wp_sendStep m K c _ Q f 0 4 0 (by decide) ?_
  refine wp_sendStep m K c _ Q f 1 4 0 (by decide) ?_
  refine wp_sendStep m K c _ Q f 2 4 0 (by decide) ?_
  refine wp_sendStep m K c _ Q f 3 4 0 (by decide) ?_
  have hd := wp_drains m K c finP Q f (wp_fin m K c Q f h) 28 (le_refl _)
  rw [Nat.sub_self] at hd
  have hh := wp_hops m K c _ Q f hd 28 (le_refl _)
  rw [show min 28 (32 - 28) = 4 from rfl, show 32 - 28 = 4 from rfl, show 28 - 28 = 0 from rfl] at hh
  change St m K c 4 4 0 0 f ⊢ _
  exact hh

end Runs

/-! ## The slots dealt to the two neighbours -/

omit [FloatOps F] in
/-- A family over the slots is its first four members and those the hops fill. -/
theorem slots_split (Φ : Fin 32 → sProp 𝕄) :
    bigSep Finset.univ Φ = iprop((bigSep Finset.univ fun j : Fin 32 => if j.val < 4 then Φ j else iprop(emp)) ∗ bigSep Finset.univ fun k : Fin 28 => Φ (dl k)) := by
  have e : (Finset.univ.filter fun j : Fin 32 => ¬ j.val < 4) = (Finset.univ : Finset (Fin 28)).map ⟨dl, fun a b h => Fin.ext (by have : a.val + 4 = b.val + 4 := congrArg Fin.val h; omega)⟩ := by
    decide
  rw [Idealize.SL.BI.bigSep_filter_split Finset.univ (fun j : Fin 32 => j.val < 4), bigSep_filter, e, bigSep_map]
  rfl

omit [FloatOps F] in
/-- The slots the hops fill are what a device lends with its two signals. -/
theorem bars_eq (c : Dev nD) : (bigSep Finset.univ fun k : Fin 28 => slotAny (F := F) c (dl k)) = iprop(barPay (prv c) true ∗ barPay (nxt c) false) := by
  unfold barPay
  rw [← bigSep_sep']
  refine bigSep_congr fun k _ => ?_
  rcases Bool.eq_false_or_eq_true (k.val % 2 == 0) with h | h
  · rw [h, if_pos rfl, if_neg (fun h => by cases h), tgt, if_pos (by simpa using h), nxt_prv]; exact (Idealize.SL.BI.equiv_iff.mp Idealize.SL.BI.sep_emp).symm
  · rw [h, if_neg (fun h => by cases h), if_pos rfl, tgt, if_neg (by simpa using h), prv_nxt]; exact (Idealize.SL.BI.equiv_iff.mp Idealize.SL.BI.emp_sep).symm

/-! ## The body -/

/-- What device `c`'s body starts from, at the names `K`. -/
def ghost (c : Dev nD) : sProp 𝕄 :=
  iprop(records m K
    ∗ (bigSep Finset.univ fun k : Fin 28 => iprop(dutyTok ER (sendCell c k) 0 false ∗ dutyTok ER (recvCell (tgt k.val c) k) 0 false ∗ atPos ER (sendCell c k) 0 ∅ 0))
    ∗ (bigSep Finset.univ fun k : Fin 28 => atPos ER (recvCell c k) 0 ∅ 0)
    ∗ dutyTok ER (barCell (nxt c)) 0 false ∗ dutyTok ER (barCell (prv c)) 0 true ∗ atPos ER (barCell c) 0 ∅ 0)
/-- The credit the launch deals it, for its waits. -/
def creds (c : Dev nD) : sProp 𝕄 :=
  iprop(cred (tallyAt (barCell c) () 2) ∗ bigSep Finset.univ fun k : Fin 28 => cred (tallyAt (recvCell c k) () N))

def bodyPre (c : Dev nD) (W : Waits sig Unit) (f : (cc0_stg2_0 : Ref sig .tc).ty.Contents (Elt F)) : sProp 𝕄 :=
  iprop(ghost m K c ∗ creds (F := F) c ∗ levAts L lv ∗ (bigSep Finset.univ fun j : Fin 32 => slotAny (F := F) c j) ∗ owes (c : Thread nD τ) (O₀ c) W ∗ xPts m c ∗ gPts m c ∗ oPts c f)

theorem payload_bar (c : Dev nD) (d : Bool) : (ringRd (F := F) m).payload (barCell c) 0 d = barPay c d := rfl

omit [FloatOps F] in
theorem snd_start (c : Dev nD) : bigSep Finset.univ (sndP (F := F) c 0 0) = iprop((bigSep Finset.univ fun k : Fin 28 => slotAny (tgt k.val c) (dl k))
    ∗ bigSep Finset.univ fun k : Fin 28 => iprop(dutyTok ER (sendCell c k) 0 false ∗ dutyTok ER (recvCell (tgt k.val c) k) 0 false ∗ atPos ER (sendCell c k) 0 ∅ 0)) := by
  rw [← bigSep_sep']
  exact bigSep_congr fun k _ => by unfold sndP; rw [if_neg (Nat.not_lt_zero _)]
omit [FloatOps F] in
theorem rcv_start (c : Dev nD) : bigSep Finset.univ (rcvP (F := F) c 0) = iprop((bigSep Finset.univ fun k : Fin 28 => cred (tallyAt (recvCell c k) () N))
    ∗ bigSep Finset.univ fun k : Fin 28 => atPos ER (recvCell c k) 0 ∅ 0) := by
  rw [← bigSep_sep']
  exact bigSep_congr fun k _ => by unfold rcvP; rw [if_neg (Nat.not_lt_zero _)]

theorem sound_body (c : Dev nD) (W : Waits sig Unit) (f : (cc0_stg2_0 : Ref sig .tc).ty.Contents (Elt F)) (Q : PUnit → sProp (MT nD τ sig Unit (Elt F) ℕ UU ℕ))
    (h : St m K c 32 28 28 28 (outAt m c) ⊢ Q ⟨⟩) : bodyPre m K c W f ⊢ wpc c ringBody Q := by
  refine step_of (wp_after m K c Q f h) ?_
  unfold bodyPre ghost creds ringBody wpc
  rw [wp_deviceId, dev1_eq c, dev2_eq c, slots_split (fun j : Fin 32 => slotAny (F := F) c j), bars_eq]
  iintro ⟨⟨⟨#HR, Hsn, Hat, Ht1, Ht2, HatB⟩, ⟨HcB, HcR⟩, #HL, ⟨Hown, Hpt, Hpf⟩, HO, Hx, Hg, Ho⟩, Hk⟩
  unfold O₀
  iapply (Rounds.wp_signal 𝒱₀ ER (ringRd m) (c : Thread nD τ) none (dst := (prv c : Thread nD τ)) (κ := K (prv c, iBar)) (r := 0)
      (d := true) (by rw [duties_bar]; exact Finset.mem_univ _) (show 1 = _ by decide) () (O₁ c) rfl) $$ [HO Ht2 Hpt]
  · isplitr; · iapply (inv_at m K (prv c) iBar); iexact HR
    isplitl [HO]; · iexact HO
    isplitl [Ht2]; · iexact Ht2
    isplitl [Hpt]; · rw [payload_bar]; iexact Hpt
    iapply (reached_at m K (prv c) iBar); iexact HR
  iintro HO
  unfold O₁
  iapply (Rounds.wp_signal 𝒱₀ ER (ringRd m) (c : Thread nD τ) none (dst := (nxt c : Thread nD τ)) (κ := K (nxt c, iBar)) (r := 0)
      (d := false) (by rw [duties_bar]; exact Finset.mem_univ _) (show 1 = _ by decide) () (Oa c 0) rfl) $$ [HO Ht1 Hpf]
  · isplitr; · iapply (inv_at m K (nxt c) iBar); iexact HR
    isplitl [HO]; · iexact HO
    isplitl [Ht1]; · iexact Ht1
    isplitl [Hpf]; · rw [payload_bar]; iexact Hpf
    iapply (reached_at m K (nxt c) iBar); iexact HR
  iintro HO
  iapply (Rounds.wp_wait_rest_token 𝒱₀ ER (ringRd m) (c : Thread nD τ) none (κ := K (c, iBar))
      (wpE_semWait_eq 𝒱₀ (c : Thread nD τ) none Set.univ) (Set.mem_univ _) () (O := Oa c 0) (W := W) (R := 0) (m := 0) (T := ∅)
      (by rw [expect_bar]; decide)) $$ [HcB HO HatB]
  · isplitr; · iapply (inv_at m K c iBar); iexact HR
    isplitl [HcB]; · iexact HcB
    isplitl [HO]; · iexact HO
    isplitr; · iapply (mayWait_bar c); iexact HL
    iexact HatB
  iintro ⟨HO, HatB, -, Hp⟩
  ihave Hp := (Entails.of_eq (rest_bar m c)) $$ Hp
  imod (Rounds.cell_close ER (ringRd m) (Set.mem_univ (K (c, iBar))) (fun h => h) (R := 0 + 1) (duties_later m (barCell c))) $$ [HatB] with HzB
  · isplitr; · iapply (inv_at m K c iBar); iexact HR
    iexact HatB
  iapply Hk
  unfold St
  isplitr; · iexact HR
  isplitr; · iexact HL
  isplitl [Hown]
  · rw [show slotP m c 0 0 0 = (fun j : Fin 32 => if j.val < 4 then slotAny (F := F) c j else iprop(emp)) from funext fun j => by
      unfold slotP; rw [if_neg (Nat.not_lt_zero _)]]
    iexact Hown
  isplitl [Hsn Hp]
  · rw [snd_start]
    isplitl [Hp] <;> iassumption
  isplitl [HcR Hat]
  · rw [rcv_start]
    isplitl [HcR] <;> iassumption
  isplitl [HO]; · iexists _; iexact HO
  isplitl [Hx]; · iexact Hx
  isplitl [Hg]; · iexact Hg
  isplitl [Ho]; · iexact Ho
  iexact HzB

end Cert.KernelIdealProof

end
-- ==== Proof.Ideal.Launch.lean ====
/-
# The launch

The scratch buffers as slots, the body obligation, and the run of the whole mesh: the set-up of the rounds over every
cell of every device at once, the tokens dealt to the devices that pay them, the credit for the waits.
-/
module

public import proofs.«01_k».proof.Proof.Ideal.Body
public import Idealize.ShloMosaic.Lib.Ring
public import Idealize.ShloMosaic.Lib.Pipeline.CollectiveSegs
public import Idealize.ShloMosaic.Lib.ViewIndex

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffers slot by slot -/

section Slots
variable (c : Dev nD)

theorem inb8 (s : Fin 8) : ∀ a, (![s.val, 0, 0] : Fin 3 → Nat) a + S1x512x128.size a ≤ S8x512x128.size a := by revert s; decide
abbrev rect8 (s : Fin 8) : Rect S8x512x128 := Rect.unit (s := S8x512x128) ![s.val, 0, 0] S1x512x128.size (inb8 s)

/-- The elements of slot `s` of ring `r`. -/
def blk (r : Fin 4) (s : Fin 8) : Finset (Idx ((scrM r).view.loc (c : Thread nD τ))) := ((scrM r).access (rect8 s)).set

theorem blk_disjoint (r : Fin 4) (s s' : Fin 8) (h : s ≠ s') : Disjoint (blk c r s) (blk c r s') :=
  View.disjoint_slice (v := (scrM r).view) (Ring.lead_disjoint (s := S8x512x128) (NB := 8) 0 1 (fun b => ![b.val, 0, 0]) S1x512x128.size inb8
    (fun b => (Nat.one_mul _).symm) rfl s s' h)

theorem rect8_cover : Finset.univ.biUnion (fun s : Fin 8 => (rect8 s).set) = Finset.univ :=
  Ring.lead_cover (s := S8x512x128) (NB := 8) 0 1 (fun b => ![b.val, 0, 0]) S1x512x128.size inb8 (fun b => (Nat.one_mul _).symm)
    (fun b a h => by match a with | ⟨0, _⟩ => exact absurd rfl h | ⟨1, _⟩ => rfl | ⟨2, _⟩ => rfl) rfl
    (fun a h => by match a with | ⟨0, _⟩ => exact absurd rfl h | ⟨1, _⟩ => rfl | ⟨2, _⟩ => rfl) rfl

theorem scr_univ (r : Fin 4) : (scrM r).view.set = Finset.univ := by
  match r with
  | 0 => exact View.set_whole _
  | 1 => exact View.set_whole _
  | 2 => exact View.set_whole _
  | 3 => exact View.set_whole _

theorem blk_cover (r : Fin 4) : Finset.univ.biUnion (blk c r) = Finset.univ := by
  ext i
  simp only [Finset.mem_biUnion, Finset.mem_univ, true_and, iff_true]
  have hi : i ∈ (scrM r).view.set := by rw [scr_univ]; exact Finset.mem_univ _
  obtain ⟨x, -, e⟩ := Finset.mem_map.mp hi
  have hx : x ∈ Finset.univ.biUnion (fun s : Fin 8 => (rect8 s).set) := by rw [rect8_cover]; exact Finset.mem_univ _
  obtain ⟨s, -, hs⟩ := Finset.mem_biUnion.mp hx
  refine ⟨s, ?_⟩
  show i ∈ ((scrM r).view.slice (rect8 s)).set
  rw [View.set_slice]
  exact Finset.mem_map.mpr ⟨x, hs, e⟩

/-- Ring and place of a slot. -/
def place : Fin 4 × Fin 8 ≃ Fin 32 where
  toFun x := ⟨4 * x.2.val + x.1.val, by omega⟩
  invFun j := (rg j, ⟨j.val / 4, by omega⟩)
  left_inv x := by
    refine Prod.ext (Fin.ext ?_) (Fin.ext ?_)
    · show (4 * x.2.val + x.1.val) % 4 = x.1.val; omega
    · show (4 * x.2.val + x.1.val) / 4 = x.2.val; omega
  right_inv j := Fin.ext (by show 4 * (j.val / 4) + j.val % 4 = j.val; omega)

omit [FloatOps F] in
/-- A slot owned is its elements owned. -/
theorem slotAny_blk (r : Fin 4) (s : Fin 8) (j : Fin 32) (hr : rg j = r) (hs : j.val / 4 = s.val) :
    (slotAny c j : sProp 𝕄) ⊣⊢ iprop(∃ f : Buf (Elt F) ((scrM r).view.loc (c : Thread nD τ)), (scrM r).view.loc (c : Thread nD τ) ↦[blk c r s]{fullShare} f) := by
  obtain ⟨s, hs8⟩ := s
  have hs' : j.val / 4 = s := hs
  subst hs' hr
  have e : (slotM j).view.set = blk c (rg j) ⟨j.val / 4, by omega⟩ :=
    View.set_reshape (v := (scrM (rg j)).access (slotR j)) squeezes_S1x512x128_S512x128.numel_eq
  have h := slotAny_eq (F := F) c j
  rw [e] at h
  exact h

/-- The buffer of ring `r`, whole, at some contents. -/
def scrAny (r : Fin 4) : sProp 𝕄 :=
  iprop(∃ f : Buf (Elt F) ((scrM r).view.loc (c : Thread nD τ)), (scrM r).view.loc (c : Thread nD τ) ↦{fullShare} f)

omit [FloatOps F] in
theorem scr_split' (r : Fin 4) (f : Buf (Elt F) ((scrM r).view.loc (c : Thread nD τ))) :
    (bigSep Finset.univ fun s : Fin 8 => ((scrM r).view.loc (c : Thread nD τ) ↦[blk c r s]{fullShare} f : sProp 𝕄))
      ⊢ bigSep Finset.univ fun s : Fin 8 => slotAny c (place (r, s)) :=
  bigSep_mono fun s _ => BIBase.Entails.trans (by iintro H; iexists f; iexact H)
    (slotAny_blk c r s (place (r, s)) (Fin.ext (by show (4 * s.val + r.val) % 4 = r.val; omega)) (by show (4 * s.val + r.val) / 4 = s.val; omega)).2

omit [FloatOps F] in
theorem scr_split (r : Fin 4) : (scrAny c r : sProp 𝕄) ⊢ bigSep Finset.univ fun s : Fin 8 => slotAny c (place (r, s)) := by
  unfold scrAny
  iintro ⟨%f, H⟩
  ihave H := (Entails.of_eq (Ring.pointsTo_blocks (blk c r) (blk_disjoint c r) (blk_cover c r) f)) $$ H
  iapply (scr_split' c r f)
  iexact H

omit [FloatOps F] in
theorem scr_join (r : Fin 4) : (bigSep Finset.univ fun s : Fin 8 => slotAny (F := F) c (place (r, s))) ⊢ scrAny c r := by
  have h : (bigSep Finset.univ fun s : Fin 8 => slotAny (F := F) c (place (r, s)))
      ⊢ bigSep Finset.univ fun s : Fin 8 => iprop(∃ f : Buf (Elt F) ((scrM r).view.loc (c : Thread nD τ)), (scrM r).view.loc (c : Thread nD τ) ↦[blk c r s]{fullShare} f) :=
    bigSep_mono fun s _ => (slotAny_blk c r s (place (r, s)) (Fin.ext (by show (4 * s.val + r.val) % 4 = r.val; omega)) (by show (4 * s.val + r.val) / 4 = s.val; omega)).1
  have h0 : bigSep Finset.univ (fun s : Fin 8 => iprop(∃ f : Buf (Elt F) ((scrM r).view.loc (c : Thread nD τ)), (scrM r).view.loc (c : Thread nD τ) ↦[blk c r s]{fullShare} f))
      ⊢ (iprop(∃ f : Buf (Elt F) ((scrM r).view.loc (c : Thread nD τ)), bigSep Finset.univ (fun s : Fin 8 => iprop(∃ f : Buf (Elt F) ((scrM r).view.loc (c : Thread nD τ)), (scrM r).view.loc (c : Thread nD τ) ↦[blk c r s]{fullShare} f))) : sProp 𝕄) := by
    rw [bigSep_univ_at _ (0 : Fin 8)]
    iintro ⟨⟨%f, H⟩, Hr⟩
    iexists f
    isplitl [H]
    · iexists f; iexact H
    · iexact Hr
  refine BIBase.Entails.trans h (BIBase.Entails.trans h0 ?_)
  unfold scrAny
  iintro ⟨%f, H⟩
  iapply (Ring.pointsTo_blocks_join_exists (blk c r) (blk_disjoint c r) (blk_cover c r) f)
  iexact H

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem slots_rings : (bigSep Finset.univ fun j : Fin 32 => slotAny (F := F) c j) = bigSep Finset.univ fun r : Fin 4 => bigSep Finset.univ fun s : Fin 8 => slotAny c (place (r, s)) := by
  rw [bigSep_univ_equiv place, bigSep_univ_prod]

omit [FloatOps F] in
/-- The launch's scratch buffers are the thirty-two slots; -/
theorem scratch_slots : (Pipeline.scopedRest (Ix := Unit) (Name := ℕ) (U := UU) (Lvl := ℕ) (Val := Elt F) cfg0.spec c : sProp 𝕄)
    ⊢ bigSep Finset.univ fun j : Fin 32 => slotAny c j := by
  rw [scopedRest0_eq, slots_rings]
  refine BIBase.Entails.trans ?_ (bigSep_mono fun r _ => scr_split c r)
  rw [bigSep_fin4]
  unfold scrAny
  iintro ⟨H0, H1, H2, H3⟩
  isplitl [H0]; · iexact H0
  isplitl [H2]; · iexact H2
  isplitl [H1]; · iexact H1
  iexact H3

omit [FloatOps F] in
/-- and back. -/
theorem slots_scratch : (bigSep Finset.univ fun j : Fin 32 => slotAny (F := F) c j)
    ⊢ Pipeline.scopedRest (Ix := Unit) (Name := ℕ) (U := UU) (Lvl := ℕ) (Val := Elt F) cfg0.spec c := by
  rw [scopedRest0_eq, slots_rings]
  refine BIBase.Entails.trans (bigSep_mono fun r _ => scr_join c r) ?_
  rw [bigSep_fin4]
  unfold scrAny
  iintro ⟨H0, H1, H2, H3⟩
  isplitl [H0]; · iexact H0
  isplitl [H2]; · iexact H2
  isplitl [H1]; · iexact H1
  iexact H3

end Slots

/-! ## The data of the pipeline -/

/-- The memory at launch: arbitrary contents, every semaphore counter zero, arbitrary generator registers. -/
def s₀ : MemSt nD τ sig (Elt F) := ⟨m, fun _ => 0, ρ⟩

def start (c : Dev nD) : sProp 𝕄 := iprop((∃ K, ghost m K c) ∗ creds (F := F) c ∗ levAts L lv)
def Φ₀ (c : Dev nD) : sProp 𝕄 := iprop(start m c ∗ bigSep Finset.univ fun j : Fin 32 => slotAny (F := F) c j)
def Φ₁ (c : Dev nD) : sProp 𝕄 :=
  iprop((bigSep Finset.univ fun j : Fin 32 => slotAny (F := F) c j) ∗ (bigSep Finset.univ fun k : Fin 28 => semVal (sendCell c k) 0)
    ∗ (bigSep Finset.univ fun k : Fin 28 => semVal (recvCell c k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

section Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ c ∗ (dats m ρ 0 c).owesAt () t0_0.succ ∗ stg c cc0_stg0_0 (xstg m c) ∗ stg c cc0_stg1_0 (gstg m c) ∗ stg c cc0_stg2_0 (outAt m c))
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

theorem slots_end (c : Dev nD) : bigSep Finset.univ (slotP m c 32 28 28) ⊢ bigSep Finset.univ fun j : Fin 32 => slotAny (F := F) c j :=
  bigSep_mono fun j _ => by
    unfold slotP; rw [if_pos j.isLt]
    by_cases h : j.val < 28
    · rw [if_neg (fun h' => h'.2 (by unfold dr; omega))]; exact slotX_any c j _
    · rw [if_neg (fun h' => h h'.1)]; exact slotX_any c j _
omit [FloatOps F] in
theorem snds_end (c : Dev nD) : bigSep Finset.univ (sndP (F := F) c 28 28) ⊢ bigSep Finset.univ fun k : Fin 28 => semVal (sendCell c k) 0 :=
  bigSep_mono fun k _ => Entails.of_eq (show sndP (F := F) c 28 28 k = semVal (sendCell c k) 0 by
    unfold sndP; rw [if_pos k.isLt, if_pos (by unfold dr; omega)])
omit [FloatOps F] in
theorem rcvs_end (c : Dev nD) : bigSep Finset.univ (rcvP (F := F) c 28) ⊢ bigSep Finset.univ fun k : Fin 28 => semVal (recvCell c k) 0 :=
  bigSep_mono fun k _ => Entails.of_eq (show rcvP (F := F) c 28 k = semVal (recvCell c k) 0 by
    unfold rcvP; rw [if_pos k.isLt])

theorem post_intro (K : Dev nD × Option (Bool × Fin 28) → ℕ) (c : Dev nD) : St m K c 32 28 28 28 (outAt m c) ⊢ bodyPost m ρ c := by
  unfold St bodyPost Φ₁ Dat.owesAt Pipeline.owesWithin xPts gPts oPts
  rw [show (dats m ρ 0 c).owed t0_0.succ = 0 from rfl, Oa_end]
  iintro ⟨-, -, Hs, Hsn, Hrc, ⟨%W, HO⟩, Hx, Hg, Ho, HB⟩
  isplitl [Hs Hsn Hrc HB]
  · isplitl [Hs]
    · iapply (slots_end m c); iexact Hs
    isplitl [Hsn]
    · iapply (snds_end (F := F) c); iexact Hsn
    isplitl [Hrc]
    · iapply (rcvs_end (F := F) c); iexact Hrc
    iexact HB
  isplitl [HO]
  · iexists W
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Ho

set_option maxRecDepth 20000 in
/-- The library's body obligation on core `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9
    cc0_scratch10 cc0_scratch11) (fun _ => bodyPost m ρ c)
  rw [body_eq]
  unfold bodyPre' Φ₀ start Dat.owesAt Pipeline.owesWithin
  rw [show (dats m ρ 0 c).owed t0_0.castSucc = O₀ c from rfl]
  iintro ⟨⟨⟨⟨%K, Hgh⟩, Hcr, HL⟩, Hs⟩, ⟨%W, %hW, HO⟩, ⟨%d0, %g0, %hg0, Hx⟩, ⟨%d1, %g1, %hg1, Hg⟩, ⟨%d2, %g2, %hg2, Ho⟩⟩
  have hx : g0 = xstg m c := by rw [hg0]; unfold Dat.before; rw [if_pos (fetch_0 t0_0)]; rfl
  have hg : g1 = gstg m c := by rw [hg1]; unfold Dat.before; rw [if_pos (fetch_1 t0_0)]; rfl
  subst hx hg
  iapply (sound_body m K c W g2 (fun _ => bodyPost m ρ c) (post_intro m ρ K c))
  unfold bodyPre xPts gPts oPts
  isplitl [Hgh]; · iexact Hgh
  isplitl [Hcr]; · iexact Hcr
  isplitl [HL]; · iexact HL
  isplitl [Hs]; · iexact Hs
  isplitl [HO]; · iexact HO
  isplitl [Hx]; · iexact Hx
  isplitl [Hg]; · iexact Hg
  iexact Ho

end Body

/-! ## The set-up of the rounds -/

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- A device's own cells' duty tokens: both of its barrier's, one of each of its others. -/
abbrev tokOf (cj : Dev nD × (Bool ⊕ (Bool × Fin 28))) : GSem nD τ sig × ℕ × Bool :=
  match cj.2 with
  | .inl d => (barCell cj.1, 0, d)
  | .inr x => (kcell (cj.1, some x), 0, false)
theorem tokOf_injective : Function.Injective (tokOf : Dev nD × (Bool ⊕ (Bool × Fin 28)) → GSem nD τ sig × ℕ × Bool) := by
  rintro ⟨c, j⟩ ⟨c', j'⟩ h
  rcases j with d | x <;> rcases j' with d' | x'
  · have h1 := kcell_injective (a₁ := (c, none)) (a₂ := (c', none)) (congrArg Prod.fst h)
    have h2 : d = d' := congrArg (fun x : GSem nD τ sig × ℕ × Bool => x.2.2) h
    rw [(Prod.mk.inj h1).1, h2]
  · exact absurd (kcell_injective (a₁ := (c, none)) (a₂ := (c', some x')) (congrArg Prod.fst h)) (fun e => by cases (Prod.mk.inj e).2)
  · exact absurd (kcell_injective (a₁ := (c, some x)) (a₂ := (c', none)) (congrArg Prod.fst h)) (fun e => by cases (Prod.mk.inj e).2)
  · have h1 := kcell_injective (a₁ := (c, some x)) (a₂ := (c', some x')) (congrArg Prod.fst h)
    rw [(Prod.mk.inj h1).1, Option.some.inj (Prod.mk.inj h1).2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Bool => dutyTok ER (barCell c) 0 d) ∗ bigSep Finset.univ fun x : Bool × Fin 28 => dutyTok ER (kcell (c, some x)) 0 false)

abbrev CK : Type := Option (Bool × Fin 28)

/-- What the launch element deals device `c`. -/
def G (c : Dev nD) : sProp 𝕄 :=
  iprop((bigSep Finset.univ fun x : CK => roundState ER (ringRd m) (kcell (c, x)) 0)
    ∗ (bigSep Finset.univ fun x : CK => iprop(atPos ER (kcell (c, x)) 0 ∅ 0 ∗ reached ER (kcell (c, x)) 0)) ∗ toks (F := F) c)
/-- What the global step makes of it. -/
def G' (c : Dev nD) : sProp 𝕄 := iprop(∃ K, ghost m K c)

omit [FloatOps F] in
theorem bigSep_bool (Φ : Bool → sProp 𝕄) : bigSep Finset.univ Φ = iprop(Φ false ∗ Φ true) := bigSep_univ_eq_bigSepL [false, true] (by decide) (by decide) Φ
omit [FloatOps F] in
theorem bigSep_ck (Φ : CK → sProp 𝕄) : bigSep Finset.univ Φ
    = iprop(Φ none ∗ (bigSep Finset.univ fun k : Fin 28 => Φ (iSend k)) ∗ bigSep Finset.univ fun k : Fin 28 => Φ (iRecv k)) := by
  have e : (Finset.univ : Finset CK).erase none = Finset.univ.map Function.Embedding.some := by
    ext x; cases x <;> simp
  rw [bigSep_univ_at Φ none, e, bigSep_map, bigSep_univ_prod, bigSep_bool]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 28 => semVal (sendCell c k) 0) ∗ bigSep Finset.univ fun k : Fin 28 => semVal (recvCell c k) 0) := by
  unfold Pipeline.ownSems0; rw [bigSep_univ_prod, bigSep_bool]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_ck]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The tokens of the duties device `c` pays. -/
def payToks (c : Dev nD) : sProp 𝕄 :=
  iprop((dutyTok ER (barCell (nxt c)) 0 false ∗ dutyTok ER (barCell (prv c)) 0 true)
    ∗ (bigSep Finset.univ fun k : Fin 28 => dutyTok ER (sendCell c k) 0 false) ∗ bigSep Finset.univ fun k : Fin 28 => dutyTok ER (recvCell (tgt k.val c) k) 0 false)
def linear (c : Dev nD) : sProp 𝕄 :=
  iprop((bigSep Finset.univ fun x : CK => atPos ER (kcell (c, x)) 0 ∅ 0) ∗ payToks (F := F) c)

theorem ghost_intro (K : Dev nD × CK → ℕ) (c : Dev nD) : iprop(records m K ∗ linear (F := F) c) ⊢ G' m c := by
  unfold linear payToks G' ghost
  rw [bigSep_ck]
  iintro ⟨#HR, ⟨HaB, HaS, HaV⟩, ⟨HtN, HtP⟩, HtS, HtV⟩
  iexists K
  isplitr; · iexact HR
  isplitl [HaS HtS HtV]
  · rw [bigSep_sep' Finset.univ (fun k : Fin 28 => (dutyTok ER (sendCell c k) 0 false : sProp 𝕄)), bigSep_sep' Finset.univ (fun k : Fin 28 => (dutyTok ER (recvCell (tgt k.val c) k) 0 false : sProp 𝕄))]
    isplitl [HtS]; · iexact HtS
    isplitl [HtV]; · iexact HtV
    iexact HaS
  isplitl [HaV]; · iexact HaV
  isplitl [HtN]; · iexact HtN
  isplitl [HtP]; · iexact HtP
  iexact HaB

omit [FloatOps F] in
/-- The tokens dealt to the devices that pay them. -/
theorem toks_around : (bigSep Finset.univ fun c : Dev nD => (toks c : sProp 𝕄)) ⊢ bigSep Finset.univ fun c : Dev nD => payToks c := by
  have hr : (bigSep Finset.univ fun c : Dev nD => bigSep Finset.univ fun k : Fin 28 => (dutyTok ER (recvCell c k) 0 false : sProp 𝕄))
      = bigSep Finset.univ fun c : Dev nD => bigSep Finset.univ fun k : Fin 28 => dutyTok ER (recvCell (tgt k.val c) k) 0 false := by
    rw [Idealize.SL.BI.bigSep_univ_comm]
    conv_rhs => rw [Idealize.SL.BI.bigSep_univ_comm]
    exact bigSep_congr fun k _ => bigSep_univ_equiv (hopRing k.val) fun c : Dev nD => (dutyTok ER (recvCell c k) 0 false : sProp 𝕄)
  have e : ∀ c : Dev nD, (toks c : sProp 𝕄) = iprop((dutyTok ER (barCell c) 0 false ∗ dutyTok ER (barCell c) 0 true)
      ∗ (bigSep Finset.univ fun k : Fin 28 => dutyTok ER (sendCell c k) 0 false) ∗ bigSep Finset.univ fun k : Fin 28 => dutyTok ER (recvCell c k) 0 false) := fun c => by
    unfold toks; rw [bigSep_bool, bigSep_univ_prod, bigSep_bool]; rfl
  unfold payToks
  rw [bigSep_congr fun c _ => e c, bigSep_sep', bigSep_sep', bigSep_sep', bigSep_sep', bigSep_sep', bigSep_sep', hr,
    bigSep_univ_equiv ring (fun c : Dev nD => (dutyTok ER (barCell c) 0 false : sProp 𝕄)),
    bigSep_univ_equiv ring.symm (fun c : Dev nD => (dutyTok ER (barCell c) 0 true : sProp 𝕄))]
  exact BIBase.Entails.refl

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit for the waits -/

theorem bar_eq_iff {a b : Dev nD} : Iff (barCell a = barCell b) (a = b) :=
  ⟨fun h => (Prod.mk.inj (kcell_injective (a₁ := (a, none)) (a₂ := (b, none)) h)).1, fun h => h ▸ rfl⟩
theorem recv_ne_bar {a b : Dev nD} {k : Fin 28} : recvCell a k ≠ barCell b := fun h =>
  absurd (Prod.mk.inj (kcell_injective (a₁ := (a, iRecv k)) (a₂ := (b, none)) h)).2 (fun e => by cases e)
theorem recv_inj {a b : Dev nD} {k i : Fin 28} (h : recvCell a k = recvCell b i) : a = b ∧ k = i := by
  have h1 := Prod.mk.inj (kcell_injective (a₁ := (a, iRecv k)) (a₂ := (b, iRecv i)) h)
  exact ⟨h1.1, (Prod.mk.inj (Option.some.inj h1.2)).2⟩

theorem O₀_apply (d : Dev nD) (g : GSem nD τ sig) :
    O₀ d g () = Oa d 0 g () + (if g = barCell (nxt d) then 1 else 0) + (if g = barCell (prv d) then 1 else 0) := by
  have h : O₀ d g () = Oa d 0 g () + tallyAt (barCell (nxt d)) () 1 g () + tallyAt (barCell (prv d)) () 1 g () := rfl
  rw [h, tallyAt_apply, tallyAt_apply]; simp only [and_true]

theorem owed_bar (d c : Dev nD) : O₀ d (barCell c) () = (if d = prv c then 1 else 0) + (if d = nxt c then 1 else 0) := by
  have h0 : Oa d 0 (barCell c) () = 0 := by
    rw [Oa_apply]; exact Finset.sum_eq_zero fun k _ => if_neg fun h => recv_ne_bar h.symm
  have e1 : (c = nxt d) = (d = prv c) := propext ⟨fun h => by rw [h, prv_nxt], fun h => by rw [h, nxt_prv]⟩
  have e2 : (c = prv d) = (d = nxt c) := propext ⟨fun h => by rw [h, nxt_prv], fun h => by rw [h, prv_nxt]⟩
  rw [O₀_apply, h0, Nat.zero_add]
  simp only [bar_eq_iff, e1, e2]

theorem owed_recv (d c : Dev nD) (k : Fin 28) : O₀ d (recvCell c k) () = if d = src k.val c then N else 0 := by
  have h0 : Oa d 0 (recvCell c k) () = if d = src k.val c then N else 0 := by
    rw [Oa_apply, Finset.sum_eq_single_of_mem k (Finset.mem_filter.mpr ⟨Finset.mem_univ _, Nat.zero_le _⟩)
      (fun i _ hi => if_neg fun h => hi (recv_inj h).2.symm)]
    by_cases h : d = src k.val c
    · rw [if_pos h, if_pos (by rw [h, tgt_src])]
    · rw [if_neg h, if_neg (fun h' => h (by rw [(recv_inj h').1, src_tgt]))]
  rw [O₀_apply, h0, if_neg recv_ne_bar, if_neg recv_ne_bar, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (k : Fin 28) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (src k.val c) fun _ => N,
    if_pos (Finset.mem_univ _)]

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  have hinj : Function.Injective (fun k : Fin 28 => (SemLoc.dma (recvS k) : SemLoc sig)) := fun a b h =>
    (Prod.mk.inj (Option.some.inj (csem_injective (a₁ := iRecv a) (a₂ := iRecv b) (show csem (iRecv a) = csem (iRecv b) from h)))).2
  refine BIBase.Entails.trans (bigSep_subset (t := Finset.univ.map ⟨fun k : Fin 28 => (SemLoc.dma (recvS k) : SemLoc sig), hinj⟩) fun x hx => ?_) ?_
  · obtain ⟨k, -, rfl⟩ := Finset.mem_map.mp hx
    exact Finset.mem_erase.mpr ⟨fun h => (by cases h), Finset.mem_univ _⟩
  · rw [bigSep_map]
    exact Entails.of_eq (bigSep_congr fun k _ => congrArg cred (launch_recv c k))

/-! ## The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_slots (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  iintro ⟨Hr, HzS, HzV, HzB⟩
  isplitl [HzB]; · iexact HzB
  isplitl [HzS HzV]
  · isplitl [HzS] <;> iassumption
  iapply (slots_scratch (F := F) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- On the mesh of eight devices, for any float values, from any memory with zero counters: every weakly fair execution
terminates, and every final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they began. -/
theorem finalA_x (c : Dev nD) : finalA m ρ c (0 : Fin 3) = m (win0_0.arr.view.loc (c : Thread nD τ)) :=
  (dats (F := F) m ρ 0 c).arrAt_in (0 : Fin 3) rfl _
theorem finalA_g (c : Dev nD) : finalA m ρ c (1 : Fin 3) = m (win0_1.arr.view.loc (c : Thread nD τ)) :=
  (dats (F := F) m ρ 0 c).arrAt_in (1 : Fin 3) rfl _

end Cert.KernelIdealProof

end
-- ==== Proof.Ideal.Value.lean ====
/-
# The value

At the ideal floats: what each ring has accumulated in its last slot is the sum over the eight devices of the device's own
chunk, whatever order the ring adds them in; the result is then the plain normalisation of the rows of that sum.
-/
module

public import proofs.«01_k».proof.Proof.Ideal.Launch
public import Idealize.ShloMosaic.Lib.Pointwise
public import Idealize.ShloMosaic.Lib.Layout

@[expose] public section

noncomputable section

namespace Cert.KernelIdealProof

open Cert.KernelIdeal Cert.KernelIdeal.Gen
open Idealize.ShloMosaic
open Idealize.ShloMosaic.TcCoe

/-! ## The payloads at an index -/

theorem pay3_apply (x : Vec Ideal S1x512x128 .f32) (a : Fin 512) (b : Fin 128) : k0_pay3 x (ix3 (0 : Fin 1) a b) = x (ix3 (0 : Fin 1) a b) := by
  pointwise [k0_pay3]
theorem pay7_apply (x y : Vec Ideal S1x512x128 .f32) (a : Fin 512) (b : Fin 128) :
    k0_pay7 x y (ix3 (0 : Fin 1) a b) = (x (ix3 (0 : Fin 1) a b) + y (ix3 (0 : Fin 1) a b) : EReal) := by
  pointwise [k0_pay7]

/-- The reciprocal root that normalises row `a`. -/
def invOf (x y z w : Vec Ideal S1x512x128 .f32) (a : Fin 512) : EReal :=
  Ideal.rsqrt (Ideal.div (∑ b : Fin 128, (((x (ix3 (0 : Fin 1) a b) * x (ix3 (0 : Fin 1) a b) + y (ix3 (0 : Fin 1) a b) * y (ix3 (0 : Fin 1) a b))
    + z (ix3 (0 : Fin 1) a b) * z (ix3 (0 : Fin 1) a b)) + w (ix3 (0 : Fin 1) a b) * w (ix3 (0 : Fin 1) a b) : EReal))
    (Ideal.ofBits .f32 0x44000000#32) + Ideal.ofBits .f32 0x358637BD#32)

theorem pay46_apply (x y z w : Vec Ideal S1x512x128 .f32) (a : Fin 512) : k0_pay46 x y z w (ix2 a (0 : Fin 1)) = invOf x y z w a := by
  unfold invOf
  pointwise [k0_pay46, k0_pay42, k0_pay43, k0_pay44, k0_pay45]

theorem pay48_apply (x y z w u : Vec Ideal S1x512x128 .f32) (g : Vec Ideal S128 .f32) (a : Fin 512) (b : Fin 128) :
    k0_pay48 (k0_pay42 u) (k0_pay47 x y z w) g (ix2 a b) = (u (ix3 (0 : Fin 1) a b) * k0_pay46 x y z w (ix2 a (0 : Fin 1)) * g (ix1 b) : EReal) := by
  pointwise [k0_pay48, k0_pay42, k0_pay47]
theorem pay49_apply (u : Vec Ideal S1x512x128 .f32) (v : FVec Ideal S512x1 .f32) (g : Vec Ideal S128 .f32) (a : Fin 512) (b : Fin 128) :
    k0_pay49 (k0_pay43 u) v g (ix2 a b) = (u (ix3 (0 : Fin 1) a b) * v (ix2 a (0 : Fin 1)) * g (ix1 b) : EReal) := by
  pointwise [k0_pay49, k0_pay43]
theorem pay1_apply (u : Vec Ideal S1x512x128 .f32) (v : FVec Ideal S512x1 .f32) (g : Vec Ideal S128 .f32) (a : Fin 512) (b : Fin 128) :
    k0_pay1 (k0_pay44 u) v g (ix2 a b) = (u (ix3 (0 : Fin 1) a b) * v (ix2 a (0 : Fin 1)) * g (ix1 b) : EReal) := by
  pointwise [k0_pay1, k0_pay44]
theorem pay2_apply (u : Vec Ideal S1x512x128 .f32) (v : FVec Ideal S512x1 .f32) (g : Vec Ideal S128 .f32) (a : Fin 512) (b : Fin 128) :
    k0_pay2 (k0_pay45 u) v g (ix2 a b) = (u (ix3 (0 : Fin 1) a b) * v (ix2 a (0 : Fin 1)) * g (ix1 b) : EReal) := by
  pointwise [k0_pay2, k0_pay45]

/-! ## What the body reads -/

variable (m : (ℓ : Loc nD τ sig) → Buf (Elt Ideal) ℓ)

theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem gstg_eq (c : Dev nD) : gstg m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

/-- The chunk of rows that device `c` adds into slot `j`. -/
def chunk (c : Dev nD) (j : Fin 32) : Fin 8 :=
  if j.val % 2 = 0 then ⟨(c.val + 15 - j.val / 4) % 8, Nat.mod_lt _ (by decide)⟩ else ⟨(c.val + 1 + j.val / 4) % 8, Nat.mod_lt _ (by decide)⟩
/-- The column quarter of ring `r`. -/
def quarterOf (r : Fin 4) : Fin 4 := ⟨pos r.val, by revert r; decide⟩

theorem offP_eq (c : Dev nD) (j : Fin 32) (a : Fin 3) : offP c j a = (![0, 512 * (chunk c j).val, 128 * (quarterOf (rg j)).val] : Fin 3 → Nat) a := by
  have h : ∀ (c : Dev nD) (j : Fin 32) (a : Fin 3), offP c j a = (![0, 512 * (chunk c j).val, 128 * (quarterOf (rg j)).val] : Fin 3 → Nat) a := by decide +kernel
  exact h c j a

abbrev rowOf (q : Fin 8) (a : Fin 512) : Fin 4096 := ⟨512 * q.val + a.val, by omega⟩
abbrev colOf (q : Fin 4) (b : Fin 128) : Fin 512 := ⟨128 * q.val + b.val, by omega⟩

/-- Device `c`'s argument block at row `i` and column `k`. -/
def X (c : Dev nD) (i : Fin 4096) (k : Fin 512) : EReal := (m ((c : Thread nD τ).loc main_arg0) : S1x4096x512.Idx → EReal) (ix3 (0 : Fin 1) i k)

theorem xl_apply (c : Dev nD) (j : Fin 32) (a : Fin 512) (b : Fin 128) :
    xl m c j (ix3 (0 : Fin 1) a b) = X m c (rowOf (chunk c j) a) (colOf (quarterOf (rg j)) b) := by
  unfold xl X
  rw [xstg_eq]
  refine congrArg (m ((c : Thread nD τ).loc main_arg0) : S1x4096x512.Idx → EReal) (funext fun x => Fin.ext ?_)
  show offP c j x + 1 * ((ix3 (0 : Fin 1) a b : S1x512x128.Idx) x).val = _
  rw [offP_eq, Nat.one_mul]
  match x with
  | ⟨0, _⟩ => rfl
  | ⟨1, _⟩ => rfl
  | ⟨2, _⟩ => rfl

theorem gl_apply (c : Dev nD) (q : Fin 4) (inb : ∀ a, (![128 * q.val] : Fin 1 → Nat) a + S128.size a ≤ S512.size a) (b : Fin 128) :
    gl m c ![128 * q.val] inb (ix1 b) = (m ((c : Thread nD τ).loc main_arg1) : S512.Idx → EReal) (ix1 (colOf q b)) := by
  unfold gl
  rw [gstg_eq]
  refine congrArg (m ((c : Thread nD τ).loc main_arg1) : S512.Idx → EReal) (funext fun x => Fin.ext ?_)
  match x with
  | ⟨0, _⟩ => show 128 * q.val + 1 * b.val = 128 * q.val + b.val; omega

/-! ## The ring sum -/

abbrev slotOf (s : ℕ) (r : Fin 4) (h : s < 8) : Fin 32 := ⟨4 * s + r.val, by omega⟩

theorem chunk_src (c : Dev nD) (k : Fin 28) : chunk (src k.val c) (sl k) = chunk c (dl k) := by
  have h : ∀ (c : Dev nD) (k : Fin 28), chunk (src k.val c) (sl k) = chunk c (dl k) := by decide +kernel
  exact h c k

/-- Ring `r` at device `c` after `s` hops: the sum of what the last `s + 1` devices hold of the chunk. -/
theorem A_sum (r : Fin 4) (a : Fin 512) (b : Fin 128) (s : ℕ) (h : s < 8) (c : Dev nD) :
    A m c (slotOf s r h) (ix3 (0 : Fin 1) a b)
      = ∑ t ∈ Finset.range (s + 1), X m ((src r.val)^[t] c) (rowOf (chunk c (slotOf s r h)) a) (colOf (quarterOf r) b) := by
  induction s generalizing c with
  | zero =>
    rw [A_seed m c _ (by show 4 * 0 + r.val < 4; omega), pay3_apply, xl_apply, Finset.sum_range_one,
      show rg (slotOf 0 r h) = r from Fin.ext (by show (4 * 0 + r.val) % 4 = r.val; omega)]
    rfl
  | succ s ih =>
    have hk : 4 * s + r.val < 28 := by omega
    have ed : slotOf (s + 1) r h = dl ⟨4 * s + r.val, hk⟩ := Fin.ext (by show 4 * (s + 1) + r.val = 4 * s + r.val + 4; omega)
    have es : sl ⟨4 * s + r.val, hk⟩ = slotOf s r (by omega) := rfl
    have ek : src (4 * s + r.val) c = src r.val c := by unfold src; rw [show (4 * s + r.val) % 2 = r.val % 2 by omega]
    have er : rg (dl ⟨4 * s + r.val, hk⟩) = r := Fin.ext (by show (4 * s + r.val + 4) % 4 = r.val; omega)
    have ec := chunk_src c ⟨4 * s + r.val, hk⟩
    rw [ed, A_step, pay7_apply, xl_apply, er, es]
    rw [es] at ec
    simp only [ek] at ec ⊢
    rw [ih, ec, Finset.sum_range_succ' _ (s + 1)]
    rfl

theorem around (r : Fin 4) (c : Dev nD) : Function.Bijective (fun t : Fin 8 => (src r.val)^[t.val] c) := by
  have h : ∀ (r : Fin 4) (c : Dev nD), Function.Injective (fun t : Fin 8 => (src r.val)^[t.val] c) := by decide +kernel
  exact (Fintype.bijective_iff_injective_and_card _).mpr ⟨h r c, rfl⟩

/-- The sum over the devices, at a row and a column of the whole array. -/
def Y (i : Fin 4096) (k : Fin 512) : EReal := ∑ d : Dev nD, X m d i k

/-- The last slot of ring `r` at device `c`: the sum over all the devices of the chunk `c`. -/
theorem A_last (r : Fin 4) (c : Dev nD) (a : Fin 512) (b : Fin 128) :
    A m c (slotOf 7 r (by decide)) (ix3 (0 : Fin 1) a b) = Y m (rowOf c a) (colOf (quarterOf r) b) := by
  have hc : ∀ (c : Dev nD) (r : Fin 4), chunk c (slotOf 7 r (by decide)) = c := by decide
  rw [A_sum, hc, Finset.sum_range]
  exact (around r c).sum_comp fun d => X m d (rowOf c a) (colOf (quarterOf r) b)

/-! ## The normalisation -/

theorem ofBits_512_pos : (0 : EReal) < Ideal.ofBits .f32 0x44000000#32 := by
  simp [Ideal.ofBits, Ideal.ieee]; exact EReal.mul_pos (EReal.coe_pos.mpr (by norm_num)) (EReal.coe_pos.mpr (by norm_num))
theorem ofBits_eps_pos : (0 : EReal) < Ideal.ofBits .f32 0x358637BD#32 := by
  simp [Ideal.ofBits, Ideal.ieee]; exact EReal.mul_pos (EReal.coe_pos.mpr (by norm_num)) (EReal.coe_pos.mpr (by norm_num))

theorem mul_self_nonneg' (x : EReal) : 0 ≤ x * x := by
  rcases le_total 0 x with h | h
  · exact mul_nonneg h h
  · have : x * x = (-x) * (-x) := by rw [neg_mul_neg]
    rw [this]
    exact mul_nonneg (EReal.neg_nonneg.mpr h) (EReal.neg_nonneg.mpr h)

/-- The mean square plus the small constant is positive. -/
theorem mean_pos (S : EReal) (h : 0 ≤ S) : 0 < Ideal.div S (Ideal.ofBits .f32 0x44000000#32) + Ideal.ofBits .f32 0x358637BD#32 := by
  unfold Ideal.div
  rw [if_neg ofBits_512_pos.ne']
  exact lt_of_lt_of_le ofBits_eps_pos (le_add_of_nonneg_left (mul_nonneg h (EReal.inv_nonneg_of_nonneg ofBits_512_pos.le)))

/-- Times the reciprocal root is divided by the root. -/
theorem mul_rsqrt (y v : EReal) (h : 0 < v) : y * Ideal.rsqrt v = Ideal.div y (Ideal.sqrt v) := by
  induction v with
  | bot => exact absurd h (by simp)
  | top => unfold Ideal.div; simp
  | coe r =>
    have hr : 0 < r := by exact_mod_cast h
    have hs : (Real.sqrt r : EReal) ≠ 0 := by exact_mod_cast (Real.sqrt_pos.mpr hr).ne'
    unfold Ideal.div
    rw [Ideal.rsqrt_coe, Ideal.sqrt_coe, if_neg hr.le.not_gt, if_neg hr.ne', if_neg hr.le.not_gt, if_neg hs, EReal.coe_inv]

/-- A sum over the columns, quarter by quarter. -/
theorem sum_quarters (f : Fin 512 → EReal) :
    ∑ b : Fin 128, (((f (colOf 0 b) + f (colOf 2 b)) + f (colOf 1 b)) + f (colOf 3 b)) = ∑ k : Fin 512, f k := by
  have h : ∑ k : Fin 512, f k = ∑ q : Fin 4, ∑ b : Fin 128, f (colOf q b) := by
    rw [← Fintype.sum_prod_type' (f := fun q b => f (colOf q b))]
    exact ((finProdFinEquiv (m := 4) (n := 128)).sum_comp f).symm.trans
      (Finset.sum_congr rfl fun x _ => congrArg f (Fin.ext (Nat.add_comm _ _)))
  rw [h, Fin.sum_univ_four, ← Finset.sum_add_distrib, ← Finset.sum_add_distrib, ← Finset.sum_add_distrib]
  exact Finset.sum_congr rfl fun b _ => by rw [add_right_comm (f (colOf 0 b))]

/-- The plain normalisation: the sum over the devices, divided by the root of the mean square of its row, times the scale. -/
def rmsNorm (y : Fin 512 → EReal) (g : EReal) (k : Fin 512) : EReal :=
  Ideal.div (y k) (Ideal.sqrt (Ideal.div (∑ k' : Fin 512, y k' * y k') (Ideal.ofBits .f32 0x44000000#32) + Ideal.ofBits .f32 0x358637BD#32)) * g

theorem inv_eq (c : Dev nD) (a : Fin 512) :
    invOf (A m c 28) (A m c 29) (A m c 30) (A m c 31) a
      = Ideal.rsqrt (Ideal.div (∑ k' : Fin 512, Y m (rowOf c a) k' * Y m (rowOf c a) k') (Ideal.ofBits .f32 0x44000000#32) + Ideal.ofBits .f32 0x358637BD#32) := by
  unfold invOf
  rw [← sum_quarters fun k => Y m (rowOf c a) k * Y m (rowOf c a) k]
  have e0 := fun b => A_last m 0 c a b
  have e1 := fun b => A_last m 1 c a b
  have e2 := fun b => A_last m 2 c a b
  have e3 := fun b => A_last m 3 c a b
  refine congrArg (fun S => Ideal.rsqrt (Ideal.div S _ + _)) (Finset.sum_congr rfl fun b _ => ?_)
  rw [show (28 : Fin 32) = slotOf 7 0 (by decide) from rfl, show (29 : Fin 32) = slotOf 7 1 (by decide) from rfl,
    show (30 : Fin 32) = slotOf 7 2 (by decide) from rfl, show (31 : Fin 32) = slotOf 7 3 (by decide) from rfl, e0, e1, e2, e3]
  rfl

/-- The scale at column `k`. -/
def G_ (c : Dev nD) (k : Fin 512) : EReal := (m ((c : Thread nD τ).loc main_arg1) : S512.Idx → EReal) (ix1 k)

theorem quart_apply (c : Dev nD) (q : Fin 4) (a : Fin 512) (b : Fin 128) :
    quart m c q (ix2 a b) = rmsNorm (fun k => Y m (rowOf c a) k) (G_ m c (colOf q b)) (colOf q b) := by
  have hp := mul_rsqrt (Y m (rowOf c a) (colOf q b)) _ (mean_pos (∑ k' : Fin 512, Y m (rowOf c a) k' * Y m (rowOf c a) k') (Finset.sum_nonneg fun k _ => mul_self_nonneg' _))
  unfold rmsNorm G_
  rw [← hp, ← inv_eq]
  match q with
  | 0 => exact (pay48_apply ..).trans (congrArg₂ (· * ·) (congrArg₂ (· * ·) (A_last m 0 c a b) (pay46_apply ..)) (gl_apply m c 0 _ b))
  | 1 => exact (pay1_apply ..).trans (congrArg₂ (· * ·) (congrArg₂ (· * ·) (A_last m 2 c a b) (pay46_apply ..)) (gl_apply m c 1 _ b))
  | 2 => exact (pay49_apply ..).trans (congrArg₂ (· * ·) (congrArg₂ (· * ·) (A_last m 1 c a b) (pay46_apply ..)) (gl_apply m c 2 _ b))
  | 3 => exact (pay2_apply ..).trans (congrArg₂ (· * ·) (congrArg₂ (· * ·) (A_last m 3 c a b) (pay46_apply ..)) (gl_apply m c 3 _ b))

/-- What device `c`'s result holds at a row and a column. -/
theorem outAt_apply (c : Dev nD) (a : Fin 512) (k : Fin 512) :
    (outAt m c : S512x512.Idx → EReal) (ix2 a k) = rmsNorm (fun k => Y m (rowOf c a) k) (G_ m c k) k := by
  have e : colOf ⟨k.val / 128, by omega⟩ ⟨k.val % 128, Nat.mod_lt _ (by decide)⟩ = k := Fin.ext (Nat.div_add_mod k.val 128)
  have h := quart_apply m c ⟨k.val / 128, by omega⟩ a ⟨k.val % 128, Nat.mod_lt _ (by decide)⟩
  rw [e] at h
  exact h

/-! ## The run's result array -/

theorem finalA_o (ρ : Dev nD → PrngReg) (c : Dev nD) : finalA m ρ c (2 : Fin 3) = outAt m c := by
  have hz : (fun a => (win0_2.index (0 : Fin 1)) a * main_v1.ty.shape.size a) = fun _ => 0 := funext fun a => by fin_cases a <;> decide
  have hr := Memref.read_access_unit_zero (Elt Ideal) main_v1 hz (fun a => by fin_cases a <;> decide) (finalA m ρ c (2 : Fin 3))
  refine hr.symm.trans ?_
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

end Cert.KernelIdealProof

end
-- ==== Proof.Ideal.Reference.lean ====
/-
# The reference at an index

The reference's result at a row and a column is the plain normalisation of the sum over the first axis of its argument.
-/
module

public import proofs.«01_k».proof.Proof.Ideal.Value
public import proofs.«01_k».proof.Proof.Gen.ReferenceIdeal.Run

@[expose] public section

noncomputable section

namespace Cert.ReferenceIdealProof

open Cert.ReferenceIdeal Cert.ReferenceIdeal.Gen Idealize.ShloMosaic Idealize.ShloMosaic.TcCoe Idealize.SL.Sem
open Cert.KernelIdealProof (rmsNorm)

/-- The sum over the first axis. -/
abbrev total (W : FVec Ideal S8x4096x512 .f32) : FVec Ideal S4096x512 .f32 :=
  Host.reduceAdd W (constant S_ .f32 0x00000000#32) reducesTo_S8x4096x512_S4096x512_d0 h_S_

/-- The root of the mean square of each row, the small constant added under the root. -/
abbrev root (y : FVec Ideal S4096x512 .f32) : FVec Ideal S4096x1 .f32 :=
  Host.sqrt (addf (Host.divf
      (broadcastInDim S4096x1 ![0] bcast_S4096_S4096x1_0
        (Host.reduceAdd (mulf y y) (constant S_ .f32 0x00000000#32) reducesTo_S4096x512_S4096_d1 h_S_))
      (broadcastInDim S4096x1 ![] bcast_S_S4096x1 (constant S_ .f32 0x44000000#32)))
    (broadcastInDim S4096x1 ![] bcast_S_S4096x1 (constant S_ .f32 0x358637BD#32)))

/-- The reference's result as the term of its operations. -/
abbrev refOut (W : FVec Ideal S8x4096x512 .f32) (g : FVec Ideal S512 .f32) : FVec Ideal S4096x512 .f32 :=
  mulf (Host.divf (total W) (broadcastInDim S4096x512 ![0, 1] bcast_S4096x1_S4096x512_0_1 (root (total W))))
    (broadcastInDim S4096x512 ![0, 1] bcast_S1x512_S4096x512_0_1 (broadcastInDim S1x512 ![1] bcast_S512_S1x512_1 g))

/-- The reference at a row and a column: the plain normalisation of the sum over the first axis. -/
theorem refOut_apply (W : FVec Ideal S8x4096x512 .f32) (g : FVec Ideal S512 .f32) (i : Fin 4096) (k : Fin 512) :
    refOut W g (ix2 i k) = rmsNorm (fun k => ∑ d : Fin 8, (W (ix3 d i k) : EReal)) (g (ix1 k)) k := by
  unfold rmsNorm
  pointwise [refOut, total, root]

/-- The reference's run: its result is `refOut` of its arguments, which end unchanged. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v13) = refOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  Cert.ReferenceIdeal.Value.run m ρ

/-- Where every device's arguments are its part of the whole arrays, its result is its block of the reference's. -/
theorem out_eq (m : (ℓ : Loc Cert.KernelIdeal.nD Cert.KernelIdeal.τ Cert.KernelIdeal.sig) → Buf (Elt Ideal) ℓ)
    (W : FVec Ideal S8x4096x512 .f32) (g : FVec Ideal S512 .f32)
    (hW : ∀ c : Dev Cert.KernelIdeal.nD, m ((c.tc : Thread Cert.KernelIdeal.nD Cert.KernelIdeal.τ).loc Cert.KernelIdeal.main_arg0)
      = Layout.block ⟨3, ![1, 4096, 512]⟩ ⟨3, ![8, 4096, 512]⟩ 0 8 c W)
    (hg : ∀ c : Dev Cert.KernelIdeal.nD, m ((c.tc : Thread Cert.KernelIdeal.nD Cert.KernelIdeal.τ).loc Cert.KernelIdeal.main_arg1) = g)
    (c : Dev Cert.KernelIdeal.nD) :
    Cert.KernelIdealProof.outAt m c = Layout.block ⟨2, ![512, 512]⟩ ⟨2, ![4096, 512]⟩ 0 8 c (refOut W g) := by
  have hX : ∀ (d : Dev Cert.KernelIdeal.nD) (i : Fin 4096) (k : Fin 512), Cert.KernelIdealProof.X m d i k = W (ix3 d i k) := fun d i k => by
    refine (congrFun (hW d) (ix3 (0 : Fin 1) i k)).trans (congrArg W ?_)
    funext b
    refine Fin.ext ?_
    rw [Layout.Tiles.idx_val]
    match b with
    | 0 => exact (Nat.add_zero _).trans (Nat.mul_one _)
    | 1 => rfl
    | 2 => rfl
  have hY : ∀ (i : Fin 4096) (k : Fin 512), Cert.KernelIdealProof.Y m i k = ∑ d : Fin 8, (W (ix3 d i k) : EReal) := fun i k =>
    Finset.sum_congr rfl fun d _ => hX d i k
  funext i
  have hi : i = ix2 (i 0) (i 1) := by funext b; match b with | 0 => rfl | 1 => rfl
  have hj : ∀ h : Layout.Tiles ⟨2, ![512, 512]⟩ ⟨2, ![4096, 512]⟩ 0 8, h.idx c i = ix2 (Cert.KernelIdealProof.rowOf c (i 0)) (i 1) := fun h => by
    funext b
    refine Fin.ext ?_
    rw [Layout.Tiles.idx_val]
    match b with
    | 0 => exact congrArg (· + _) (Nat.mul_comm _ _)
    | 1 => rfl
  refine (congrArg (Cert.KernelIdealProof.outAt m c) hi).trans ((Cert.KernelIdealProof.outAt_apply m c (i 0) (i 1)).trans ?_)
  refine Eq.trans ?_ ((congrArg (refOut W g) (hj _)).trans (refOut_apply W g _ _)).symm
  have hG : Cert.KernelIdealProof.G_ m c (i 1) = g (ix1 (i 1)) := congrFun (hg c) (ix1 (i 1))
  exact congrArg₂ (fun y s => rmsNorm y s (i 1)) (funext fun k => hY _ k) hG

end Cert.ReferenceIdealProof

end
-- ==== Proof.lean ====
/-
# The certificate

The frames of the program at the chip's floats and at the ideal ones are the run of the mesh with the values dropped;
the algebraic claim is the same run at the ideal floats, its value compared with the reference's.
-/
module

public import proofs.«01_k».proof.Defs
public import proofs.«01_k».proof.Proof.Ideal.Reference
public import proofs.«01_k».proof.Proof.Exact.Launch
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

attribute [local instance] Cert.Kernel.Gen.facts Cert.KernelIdeal.Gen.facts Cert.ReferenceIdeal.Gen.facts

/-- The program at the chip's floats runs, its arguments end unchanged, every counter ends at zero. -/
theorem frame_kernel : Cert.quiescent_Kernel := fun m g _ =>
  (θ_run Cert.Kernel.defs _ _).mono
    (fun _ h => ⟨fun c => ⟨(h.1 c (0 : Fin 3)).trans (Cert.KernelProof.finalA_x m g c), (h.1 c (1 : Fin 3)).trans (Cert.KernelProof.finalA_g m g c)⟩, h.2⟩)
    (Cert.KernelProof.run_main m g)

/-- The same at the ideal floats. -/
theorem frame_ideal : Cert.quiescent_KernelIdeal := fun m g _ =>
  (θ_run Cert.KernelIdeal.defs _ _).mono
    (fun _ h => ⟨fun c => ⟨(h.1 c (0 : Fin 3)).trans (Cert.KernelIdealProof.finalA_x m g c), (h.1 c (1 : Fin 3)).trans (Cert.KernelIdealProof.finalA_g m g c)⟩, h.2⟩)
    (Cert.KernelIdealProof.run_main m g)

/-- The reference runs, its arguments end unchanged, every counter ends at zero. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdealProof.run_main m g)

/-- At the ideal floats every device's result is its block of the reference's result on the whole arrays. -/
theorem algebraic : Cert.algebraic_KernelIdeal_ReferenceIdeal := fun m g m' g' _ hagree =>
  ⟨Cert.ReferenceIdealProof.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((Cert.KernelIdealProof.finalA_o m g c).trans
          (Cert.ReferenceIdealProof.out_eq m _ _ (fun d => (hagree d).1) (fun d => (hagree d).2) c)),
        (h.1 c (0 : Fin 3)).trans (Cert.KernelIdealProof.finalA_x m g c), (h.1 c (1 : Fin 3)).trans (Cert.KernelIdealProof.finalA_g m g c)⟩)
      (Cert.KernelIdealProof.run_main m g),
    (θ_run Cert.ReferenceIdeal.defs _ _).mono (fun _ h => h 0) (Cert.ReferenceIdealProof.run_main m' g')⟩

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
